-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2304x4800 : Shape := ⟨2, ![2304, 4800]⟩
abbrev S64x36x2048 : Shape := ⟨3, ![64, 36, 2048]⟩
abbrev S64x36x4 : Shape := ⟨3, ![64, 36, 4]⟩
abbrev S4800x1200 : Shape := ⟨2, ![4800, 1200]⟩
abbrev S1200 : Shape := ⟨1, ![1200]⟩
abbrev S2048x1200 : Shape := ⟨2, ![2048, 1200]⟩
abbrev S1200x2048 : Shape := ⟨2, ![1200, 2048]⟩
abbrev S2048 : Shape := ⟨1, ![2048]⟩
abbrev S2048x300 : Shape := ⟨2, ![2048, 300]⟩
abbrev S300 : Shape := ⟨1, ![300]⟩
abbrev S300x2048 : Shape := ⟨2, ![300, 2048]⟩
abbrev S4x32 : Shape := ⟨2, ![4, 32]⟩
abbrev S32 : Shape := ⟨1, ![32]⟩
abbrev S32x2048 : Shape := ⟨2, ![32, 2048]⟩
abbrev S2304x2048 : Shape := ⟨2, ![2304, 2048]⟩
abbrev S2304x4 : Shape := ⟨2, ![2304, 4]⟩
abbrev S1x1200 : Shape := ⟨2, ![1, 1200]⟩
abbrev S2304x1200 : Shape := ⟨2, ![2304, 1200]⟩
abbrev S256x4800 : Shape := ⟨2, ![256, 4800]⟩
abbrev S256x1200 : Shape := ⟨2, ![256, 1200]⟩
abbrev S1x2048 : Shape := ⟨2, ![1, 2048]⟩
abbrev S1x300 : Shape := ⟨2, ![1, 300]⟩
abbrev S1x32 : Shape := ⟨2, ![1, 32]⟩
abbrev S288x1200 : Shape := ⟨2, ![288, 1200]⟩
abbrev S288x2048 : Shape := ⟨2, ![288, 2048]⟩
abbrev S288x4 : Shape := ⟨2, ![288, 4]⟩
abbrev S288 : Shape := ⟨1, ![288]⟩
abbrev S288x1 : Shape := ⟨2, ![288, 1]⟩
abbrev S288x288 : Shape := ⟨2, ![288, 288]⟩
abbrev S1x288 : Shape := ⟨2, ![1, 288]⟩
abbrev S288x128 : Shape := ⟨2, ![288, 128]⟩
abbrev S128x2048 : Shape := ⟨2, ![128, 2048]⟩
abbrev S128x4 : Shape := ⟨2, ![128, 4]⟩
abbrev S128x300 : Shape := ⟨2, ![128, 300]⟩
abbrev S128x32 : Shape := ⟨2, ![128, 32]⟩
abbrev S64x300 : Shape := ⟨2, ![64, 300]⟩
abbrev S64x1x300 : Shape := ⟨3, ![64, 1, 300]⟩
abbrev S64x16x300 : Shape := ⟨3, ![64, 16, 300]⟩
abbrev S1024x300 : Shape := ⟨2, ![1024, 300]⟩
abbrev S4x16x300 : Shape := ⟨3, ![4, 16, 300]⟩
abbrev S4x1x16x300 : Shape := ⟨4, ![4, 1, 16, 300]⟩
abbrev S4x16x16x300 : Shape := ⟨4, ![4, 16, 16, 300]⟩
abbrev S64x32 : Shape := ⟨2, ![64, 32]⟩
abbrev S64x1x32 : Shape := ⟨3, ![64, 1, 32]⟩
abbrev S64x16x32 : Shape := ⟨3, ![64, 16, 32]⟩
abbrev S1024x32 : Shape := ⟨2, ![1024, 32]⟩
abbrev S4x16x32 : Shape := ⟨3, ![4, 16, 32]⟩
abbrev S4x1x16x32 : Shape := ⟨4, ![4, 1, 16, 32]⟩
abbrev S4x16x16x32 : Shape := ⟨4, ![4, 16, 16, 32]⟩
abbrev S1024x2048 : Shape := ⟨2, ![1024, 2048]⟩
abbrev S64x16x2048 : Shape := ⟨3, ![64, 16, 2048]⟩
abbrev S64x2048 : Shape := ⟨2, ![64, 2048]⟩

abbrev nBuf : Space → Nat
  | .hbm => 35
  | .vmem => 30
  | .smem => 0
  | _ => 0

abbrev bufTy : (tb : Table) → Fin (tcTables nBuf tb) → BufTy
  | .hbm, ⟨0, _⟩ => ⟨S2304x4800, .f32⟩
  | .hbm, ⟨1, _⟩ => ⟨S64x36x2048, .f32⟩
  | .hbm, ⟨2, _⟩ => ⟨S64x36x4, .f32⟩
  | .hbm, ⟨3, _⟩ => ⟨S4800x1200, .f32⟩
  | .hbm, ⟨4, _⟩ => ⟨S1200, .f32⟩
  | .hbm, ⟨5, _⟩ => ⟨S2048x1200, .f32⟩
  | .hbm, ⟨6, _⟩ => ⟨S1200, .f32⟩
  | .hbm, ⟨7, _⟩ => ⟨S1200x2048, .f32⟩
  | .hbm, ⟨8, _⟩ => ⟨S2048, .f32⟩
  | .hbm, ⟨9, _⟩ => ⟨S2048x300, .f32⟩
  | .hbm, ⟨10, _⟩ => ⟨S300, .f32⟩
  | .hbm, ⟨11, _⟩ => ⟨S2048x300, .f32⟩
  | .hbm, ⟨12, _⟩ => ⟨S300, .f32⟩
  | .hbm, ⟨13, _⟩ => ⟨S300x2048, .f32⟩
  | .hbm, ⟨14, _⟩ => ⟨S2048, .f32⟩
  | .hbm, ⟨15, _⟩ => ⟨S4x32, .f32⟩
  | .hbm, ⟨16, _⟩ => ⟨S32, .f32⟩
  | .hbm, ⟨17, _⟩ => ⟨S4x32, .f32⟩
  | .hbm, ⟨18, _⟩ => ⟨S32, .f32⟩
  | .hbm, ⟨19, _⟩ => ⟨S32x2048, .f32⟩
  | .hbm, ⟨20, _⟩ => ⟨S2048, .f32⟩
  | .hbm, ⟨21, _⟩ => ⟨S2304x2048, .f32⟩
  | .hbm, ⟨22, _⟩ => ⟨S2304x4, .f32⟩
  | .hbm, ⟨23, _⟩ => ⟨S1x1200, .f32⟩
  | .hbm, ⟨24, _⟩ => ⟨S2304x1200, .f32⟩
  | .hbm, ⟨25, _⟩ => ⟨S1x1200, .f32⟩
  | .hbm, ⟨26, _⟩ => ⟨S1x2048, .f32⟩
  | .hbm, ⟨27, _⟩ => ⟨S1x300, .f32⟩
  | .hbm, ⟨28, _⟩ => ⟨S1x300, .f32⟩
  | .hbm, ⟨29, _⟩ => ⟨S1x2048, .f32⟩
  | .hbm, ⟨30, _⟩ => ⟨S1x32, .f32⟩
  | .hbm, ⟨31, _⟩ => ⟨S1x32, .f32⟩
  | .hbm, ⟨32, _⟩ => ⟨S1x2048, .f32⟩
  | .hbm, ⟨33, _⟩ => ⟨S2304x2048, .f32⟩
  | .hbm, ⟨34, _⟩ => ⟨S64x36x2048, .f32⟩
  | .local _ .vmem, ⟨0, _⟩ => ⟨S256x4800, .f32⟩
  | .local _ .vmem, ⟨1, _⟩ => ⟨S256x4800, .f32⟩
  | .local _ .vmem, ⟨2, _⟩ => ⟨S4800x1200, .f32⟩
  | .local _ .vmem, ⟨3, _⟩ => ⟨S1x1200, .f32⟩
  | .local _ .vmem, ⟨4, _⟩ => ⟨S256x1200, .f32⟩
  | .local _ .vmem, ⟨5, _⟩ => ⟨S256x1200, .f32⟩
  | .local _ .vmem, ⟨6, _⟩ => ⟨S288x1200, .f32⟩
  | .local _ .vmem, ⟨7, _⟩ => ⟨S288x1200, .f32⟩
  | .local _ .vmem, ⟨8, _⟩ => ⟨S288x2048, .f32⟩
  | .local _ .vmem, ⟨9, _⟩ => ⟨S288x2048, .f32⟩
  | .local _ .vmem, ⟨10, _⟩ => ⟨S288x4, .f32⟩
  | .local _ .vmem, ⟨11, _⟩ => ⟨S288x4, .f32⟩
  | .local _ .vmem, ⟨12, _⟩ => ⟨S2048x1200, .f32⟩
  | .local _ .vmem, ⟨13, _⟩ => ⟨S1x1200, .f32⟩
  | .local _ .vmem, ⟨14, _⟩ => ⟨S1200x2048, .f32⟩
  | .local _ .vmem, ⟨15, _⟩ => ⟨S1x2048, .f32⟩
  | .local _ .vmem, ⟨16, _⟩ => ⟨S2048x300, .f32⟩
  | .local _ .vmem, ⟨17, _⟩ => ⟨S1x300, .f32⟩
  | .local _ .vmem, ⟨18, _⟩ => ⟨S2048x300, .f32⟩
  | .local _ .vmem, ⟨19, _⟩ => ⟨S1x300, .f32⟩
  | .local _ .vmem, ⟨20, _⟩ => ⟨S300x2048, .f32⟩
  | .local _ .vmem, ⟨21, _⟩ => ⟨S1x2048, .f32⟩
  | .local _ .vmem, ⟨22, _⟩ => ⟨S4x32, .f32⟩
  | .local _ .vmem, ⟨23, _⟩ => ⟨S1x32, .f32⟩
  | .local _ .vmem, ⟨24, _⟩ => ⟨S4x32, .f32⟩
  | .local _ .vmem, ⟨25, _⟩ => ⟨S1x32, .f32⟩
  | .local _ .vmem, ⟨26, _⟩ => ⟨S32x2048, .f32⟩
  | .local _ .vmem, ⟨27, _⟩ => ⟨S1x2048, .f32⟩
  | .local _ .vmem, ⟨28, _⟩ => ⟨S288x2048, .f32⟩
  | .local _ .vmem, ⟨29, _⟩ => ⟨S288x2048, .f32⟩
  | _, _ => ⟨S2304x4800, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg9_0 : Ref sig .tc := ⟨.vmem, 18, rfl⟩
abbrev cc1_stg10_0 : Ref sig .tc := ⟨.vmem, 19, rfl⟩
abbrev cc1_stg11_0 : Ref sig .tc := ⟨.vmem, 20, rfl⟩
abbrev cc1_stg12_0 : Ref sig .tc := ⟨.vmem, 21, rfl⟩
abbrev cc1_stg13_0 : Ref sig .tc := ⟨.vmem, 22, rfl⟩
abbrev cc1_stg14_0 : Ref sig .tc := ⟨.vmem, 23, rfl⟩
abbrev cc1_stg15_0 : Ref sig .tc := ⟨.vmem, 24, rfl⟩
abbrev cc1_stg16_0 : Ref sig .tc := ⟨.vmem, 25, rfl⟩
abbrev cc1_stg17_0 : Ref sig .tc := ⟨.vmem, 26, rfl⟩
abbrev cc1_stg18_0 : Ref sig .tc := ⟨.vmem, 27, rfl⟩
abbrev cc1_stg19_0 : Ref sig .tc := ⟨.vmem, 28, rfl⟩
abbrev cc1_stg19_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem9_0 : DmaSem sig := 18
abbrev cc1_sem10_0 : DmaSem sig := 19
abbrev cc1_sem11_0 : DmaSem sig := 20
abbrev cc1_sem12_0 : DmaSem sig := 21
abbrev cc1_sem13_0 : DmaSem sig := 22
abbrev cc1_sem14_0 : DmaSem sig := 23
abbrev cc1_sem15_0 : DmaSem sig := 24
abbrev cc1_sem16_0 : DmaSem sig := 25
abbrev cc1_sem17_0 : DmaSem sig := 26
abbrev cc1_sem18_0 : DmaSem sig := 27
abbrev cc1_sem19_0 : DmaSem sig := 28
abbrev cc1_sem19_1 : DmaSem sig := 29

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4800 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4800x1200 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1200 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1200 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_17 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_18 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_19 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S288x1200 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S288x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S288x4 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S2048x1200 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1200 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1200x2048 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x2048 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S2048x300 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x300 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S2048x300 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x300 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S300x2048 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x2048 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S4x32 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1x32 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S4x32 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 1 → Memref sig .tc .vmem S1x32 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]

abbrev stage1_17 : Fin 1 → Memref sig .tc .vmem S32x2048 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
abbrev reads1_17 : Fin grid1.rank → Bool := ![false]

abbrev stage1_18 : Fin 1 → Memref sig .tc .vmem S1x2048 .f32 := fun | 0 => Memref.whole cc1_stg18_0 | ⟨_ + 1, h⟩ => absurd h (Nat.not_lt.2 (Nat.le_add_left _ _))
abbrev sem1_18 : Fin 1 → DmaSem sig := fun | 0 => cc1_sem18_0 | ⟨_ + 1, h⟩ => absurd h (Nat.not_lt.2 (Nat.le_add_left _ _))
abbrev reads1_18 : Fin grid1.rank → Bool := ![false]

abbrev stage1_19 : Fin 2 → Memref sig .tc .vmem S288x2048 .f32 := fun | 0 => Memref.whole cc1_stg19_0 | 1 => Memref.whole cc1_stg19_1 | ⟨_ + 2, h⟩ => absurd h (Nat.not_lt.2 (Nat.le_add_left _ _))
abbrev sem1_19 : Fin 2 → DmaSem sig := fun | 0 => cc1_sem19_0 | 1 => cc1_sem19_1 | ⟨_ + 2, h⟩ => absurd h (Nat.not_lt.2 (Nat.le_add_left _ _))
abbrev reads1_19 : Fin grid1.rank → Bool := ![true]
-- ==== ReferenceIdeal.lean ====
abbrev S2304x4800 : Shape := ⟨2, ![2304, 4800]⟩
abbrev S64x36x2048 : Shape := ⟨3, ![64, 36, 2048]⟩
abbrev S64x36x4 : Shape := ⟨3, ![64, 36, 4]⟩
abbrev S4800x1200 : Shape := ⟨2, ![4800, 1200]⟩
abbrev S1200 : Shape := ⟨1, ![1200]⟩
abbrev S2048x1200 : Shape := ⟨2, ![2048, 1200]⟩
abbrev S1200x2048 : Shape := ⟨2, ![1200, 2048]⟩
abbrev S2048 : Shape := ⟨1, ![2048]⟩
abbrev S2048x300 : Shape := ⟨2, ![2048, 300]⟩
abbrev S300 : Shape := ⟨1, ![300]⟩
abbrev S300x2048 : Shape := ⟨2, ![300, 2048]⟩
abbrev S4x32 : Shape := ⟨2, ![4, 32]⟩
abbrev S32 : Shape := ⟨1, ![32]⟩
abbrev S32x2048 : Shape := ⟨2, ![32, 2048]⟩
abbrev S2304x2048 : Shape := ⟨2, ![2304, 2048]⟩
abbrev S2304x1200 : Shape := ⟨2, ![2304, 1200]⟩
abbrev S1x1200 : Shape := ⟨2, ![1, 1200]⟩
abbrev S_ : Shape := ⟨0, ![]⟩
abbrev S1x2048 : Shape := ⟨2, ![1, 2048]⟩
abbrev S64x36 : Shape := ⟨2, ![64, 36]⟩
abbrev S64x16 : Shape := ⟨2, ![64, 16]⟩
abbrev S64x16x1 : Shape := ⟨3, ![64, 16, 1]⟩
abbrev S1 : Shape := ⟨1, ![1]⟩
abbrev S1x1x1 : Shape := ⟨3, ![1, 1, 1]⟩
abbrev S64x16x2048 : Shape := ⟨3, ![64, 16, 2048]⟩
abbrev S64x16x4 : Shape := ⟨3, ![64, 16, 4]⟩
abbrev S64x16x1x2048 : Shape := ⟨4, ![64, 16, 1, 2048]⟩
abbrev S64x16x16x2048 : Shape := ⟨4, ![64, 16, 16, 2048]⟩
abbrev S64x1x16x2048 : Shape := ⟨4, ![64, 1, 16, 2048]⟩
abbrev S64x16x16x300 : Shape := ⟨4, ![64, 16, 16, 300]⟩
abbrev S1x1x1x300 : Shape := ⟨4, ![1, 1, 1, 300]⟩
abbrev S1x1x1x2048 : Shape := ⟨4, ![1, 1, 1, 2048]⟩
abbrev S64x16x1x4 : Shape := ⟨4, ![64, 16, 1, 4]⟩
abbrev S64x16x16x4 : Shape := ⟨4, ![64, 16, 16, 4]⟩
abbrev S64x1x16x4 : Shape := ⟨4, ![64, 1, 16, 4]⟩
abbrev S64x16x16x32 : Shape := ⟨4, ![64, 16, 16, 32]⟩
abbrev S1x1x1x32 : Shape := ⟨4, ![1, 1, 1, 32]⟩
abbrev S64 : Shape := ⟨1, ![64]⟩
abbrev S64x1 : Shape := ⟨2, ![64, 1]⟩
abbrev S64x16x2 : Shape := ⟨3, ![64, 16, 2]⟩

abbrev nBuf : Space → Nat
  | .hbm => 174
  | .vmem => 0
  | .smem => 0
  | _ => 0

abbrev hbmTy0_0 (i : Nat) : BufTy := match i % 128 with
  | 0 => ⟨S2304x4800, .f32⟩
  | 1 => ⟨S64x36x2048, .f32⟩
  | 2 => ⟨S64x36x4, .f32⟩
  | 3 => ⟨S4800x1200, .f32⟩
  | 4 => ⟨S1200, .f32⟩
  | 5 => ⟨S2048x1200, .f32⟩
  | 6 => ⟨S1200, .f32⟩
  | 7 => ⟨S1200x2048, .f32⟩
  | 8 => ⟨S2048, .f32⟩
  | 9 => ⟨S2048x300, .f32⟩
  | 10 => ⟨S300, .f32⟩
  | 11 => ⟨S2048x300, .f32⟩
  | 12 => ⟨S300, .f32⟩
  | 13 => ⟨S300x2048, .f32⟩
  | 14 => ⟨S2048, .f32⟩
  | 15 => ⟨S4x32, .f32⟩
  | 16 => ⟨S32, .f32⟩
  | 17 => ⟨S4x32, .f32⟩
  | 18 => ⟨S32, .f32⟩
  | 19 => ⟨S32x2048, .f32⟩
  | 20 => ⟨S2048, .f32⟩
  | 21 => ⟨S2304x2048, .f32⟩
  | 22 => ⟨S2304x1200, .f32⟩
  | 23 => ⟨S1x1200, .f32⟩
  | 24 => ⟨S2304x1200, .f32⟩
  | 25 => ⟨S2304x1200, .f32⟩
  | 26 => ⟨S_, .f32⟩
  | 27 => ⟨S2304x1200, .f32⟩
  | 28 => ⟨S2304x1200, .f32⟩
  | 29 => ⟨S2304x1200, .f32⟩
  | 30 => ⟨S1x1200, .f32⟩
  | 31 => ⟨S2304x1200, .f32⟩
  | 32 => ⟨S2304x1200, .f32⟩
  | 33 => ⟨S_, .f32⟩
  | 34 => ⟨S2304x1200, .f32⟩
  | 35 => ⟨S2304x1200, .f32⟩
  | 36 => ⟨S2304x1200, .f32⟩
  | 37 => ⟨S2304x2048, .f32⟩
  | 38 => ⟨S1x2048, .f32⟩
  | 39 => ⟨S2304x2048, .f32⟩
  | 40 => ⟨S2304x2048, .f32⟩
  | 41 => ⟨S_, .f32⟩
  | 42 => ⟨S2304x2048, .f32⟩
  | 43 => ⟨S2304x2048, .f32⟩
  | 44 => ⟨S64x36x2048, .f32⟩
  | 45 => ⟨S64x36x2048, .f32⟩
  | 46 => ⟨S_, .f32⟩
  | 47 => ⟨S64x36, .f32⟩
  | 48 => ⟨S64x36, .f32⟩
  | 49 => ⟨S64x16, .f32⟩
  | 50 => ⟨S64x16, .i32⟩
  | 51 => ⟨S64x16x1, .i32⟩
  | 52 => ⟨S_, .i32⟩
  | 53 => ⟨S64x16x1, .i32⟩
  | 54 => ⟨S64x16x1, .i1⟩
  | 55 => ⟨S_, .i32⟩
  | 56 => ⟨S64x16x1, .i32⟩
  | 57 => ⟨S64x16x1, .i32⟩
  | 58 => ⟨S64x16x1, .i32⟩
  | 59 => ⟨S1, .i32⟩
  | 60 => ⟨S_, .i32⟩
  | 61 => ⟨S64x16x1, .i32⟩
  | 62 => ⟨S64x16x1, .i1⟩
  | 63 => ⟨S1x1x1, .i32⟩
  | 64 => ⟨S64x16x1, .i32⟩
  | 65 => ⟨S64x16x1, .i1⟩
  | 66 => ⟨S64x16x1, .i1⟩
  | 67 => ⟨S_, .i1⟩
  | 68 => ⟨S64x16, .i1⟩
  | 69 => ⟨S64x16x2048, .f32⟩
  | 70 => ⟨S64x16x2048, .i1⟩
  | 71 => ⟨S_, .f32⟩
  | 72 => ⟨S64x16x2048, .f32⟩
  | 73 => ⟨S64x16x2048, .f32⟩
  | 74 => ⟨S64x16x1, .i32⟩
  | 75 => ⟨S_, .i32⟩
  | 76 => ⟨S64x16x1, .i32⟩
  | 77 => ⟨S64x16x1, .i1⟩
  | 78 => ⟨S_, .i32⟩
  | 79 => ⟨S64x16x1, .i32⟩
  | 80 => ⟨S64x16x1, .i32⟩
  | 81 => ⟨S64x16x1, .i32⟩
  | 82 => ⟨S1, .i32⟩
  | 83 => ⟨S_, .i32⟩
  | 84 => ⟨S64x16x1, .i32⟩
  | 85 => ⟨S64x16x1, .i1⟩
  | 86 => ⟨S1x1x1, .i32⟩
  | 87 => ⟨S64x16x1, .i32⟩
  | 88 => ⟨S64x16x1, .i1⟩
  | 89 => ⟨S64x16x1, .i1⟩
  | 90 => ⟨S_, .i1⟩
  | 91 => ⟨S64x16, .i1⟩
  | 92 => ⟨S64x16x4, .f32⟩
  | 93 => ⟨S64x16x4, .i1⟩
  | 94 => ⟨S_, .f32⟩
  | 95 => ⟨S64x16x4, .f32⟩
  | 96 => ⟨S64x16x4, .f32⟩
  | 97 => ⟨S64x16x1x2048, .f32⟩
  | 98 => ⟨S64x16x16x2048, .f32⟩
  | 99 => ⟨S64x1x16x2048, .f32⟩
  | 100 => ⟨S64x16x16x2048, .f32⟩
  | 101 => ⟨S64x16x16x300, .f32⟩
  | 102 => ⟨S1x1x1x300, .f32⟩
  | 103 => ⟨S64x16x16x300, .f32⟩
  | 104 => ⟨S64x16x16x300, .f32⟩
  | 105 => ⟨S_, .f32⟩
  | 106 => ⟨S64x16x16x300, .f32⟩
  | 107 => ⟨S64x16x16x300, .f32⟩
  | 108 => ⟨S64x16x16x300, .f32⟩
  | 109 => ⟨S1x1x1x300, .f32⟩
  | 110 => ⟨S64x16x16x300, .f32⟩
  | 111 => ⟨S64x16x16x300, .f32⟩
  | 112 => ⟨S_, .f32⟩
  | 113 => ⟨S64x16x16x300, .f32⟩
  | 114 => ⟨S64x16x16x300, .f32⟩
  | 115 => ⟨S64x16x16x300, .f32⟩
  | 116 => ⟨S64x16x16x2048, .f32⟩
  | 117 => ⟨S1x1x1x2048, .f32⟩
  | 118 => ⟨S64x16x16x2048, .f32⟩
  | 119 => ⟨S64x16x16x2048, .f32⟩
  | 120 => ⟨S_, .f32⟩
  | 121 => ⟨S64x16x16x2048, .f32⟩
  | 122 => ⟨S64x16x16x2048, .f32⟩
  | 123 => ⟨S64x16x1x4, .f32⟩
  | 124 => ⟨S64x16x16x4, .f32⟩
  | 125 => ⟨S64x1x16x4, .f32⟩
  | 126 => ⟨S64x16x16x4, .f32⟩
  | 127 => ⟨S64x16x16x32, .f32⟩
  | _ => ⟨S2304x4800, .f32⟩

abbrev hbmTy0_1 (i : Nat) : BufTy := match i % 128 with
  | 0 => ⟨S1x1x1x32, .f32⟩
  | 1 => ⟨S64x16x16x32, .f32⟩
  | 2 => ⟨S64x16x16x32, .f32⟩
  | 3 => ⟨S_, .f32⟩
  | 4 => ⟨S64x16x16x32, .f32⟩
  | 5 => ⟨S64x16x16x32, .f32⟩
  | 6 => ⟨S64x16x16x32, .f32⟩
  | 7 => ⟨S1x1x1x32, .f32⟩
  | 8 => ⟨S64x16x16x32, .f32⟩
  | 9 => ⟨S64x16x16x32, .f32⟩
  | 10 => ⟨S_, .f32⟩
  | 11 => ⟨S64x16x16x32, .f32⟩
  | 12 => ⟨S64x16x16x32, .f32⟩
  | 13 => ⟨S64x16x16x32, .f32⟩
  | 14 => ⟨S64x16x16x2048, .f32⟩
  | 15 => ⟨S1x1x1x2048, .f32⟩
  | 16 => ⟨S64x16x16x2048, .f32⟩
  | 17 => ⟨S64x16x16x2048, .f32⟩
  | 18 => ⟨S_, .f32⟩
  | 19 => ⟨S64x16x16x2048, .f32⟩
  | 20 => ⟨S64x16x16x2048, .f32⟩
  | 21 => ⟨S64x16x16x2048, .f32⟩
  | 22 => ⟨S_, .f32⟩
  | 23 => ⟨S64x16x2048, .f32⟩
  | 24 => ⟨S64x16x2048, .f32⟩
  | 25 => ⟨S64, .i32⟩
  | 26 => ⟨S64x1, .i32⟩
  | 27 => ⟨S_, .i32⟩
  | 28 => ⟨S64x1, .i32⟩
  | 29 => ⟨S64x1, .i1⟩
  | 30 => ⟨S_, .i32⟩
  | 31 => ⟨S64x1, .i32⟩
  | 32 => ⟨S64x1, .i32⟩
  | 33 => ⟨S64x1, .i32⟩
  | 34 => ⟨S_, .i32⟩
  | 35 => ⟨S64x16, .i32⟩
  | 36 => ⟨S64x16, .i1⟩
  | 37 => ⟨S_, .i32⟩
  | 38 => ⟨S64x16, .i32⟩
  | 39 => ⟨S64x16, .i32⟩
  | 40 => ⟨S64x16, .i32⟩
  | 41 => ⟨S64x16, .i32⟩
  | 42 => ⟨S64x16x1, .i32⟩
  | 43 => ⟨S64x16x1, .i32⟩
  | 44 => ⟨S64x16x2, .i32⟩
  | 45 => ⟨S64x36x2048, .f32⟩
  | _ => ⟨S2304x4800, .f32⟩

abbrev hbmTy (i : Nat) : BufTy := match i / 128 with
  | 0 => hbmTy0_0 i
  | 1 => hbmTy0_1 i
  | _ => ⟨S2304x4800, .f32⟩

abbrev bufTy : (tb : Table) → Fin (tcTables nBuf tb) → BufTy
  | .hbm, ⟨i, _⟩ => hbmTy i
  | _, _ => ⟨S2304x4800, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_call0_cst : Ref sig .tc := ⟨.hbm, 26, rfl⟩
abbrev main_call0_v0 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_call1_cst : Ref sig .tc := ⟨.hbm, 33, rfl⟩
abbrev main_call1_v0 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_call2_cst : Ref sig .tc := ⟨.hbm, 41, rfl⟩
abbrev main_call2_v0 : Ref sig .tc := ⟨.hbm, 42, rfl⟩
abbrev main_v16 : Ref sig .tc := ⟨.hbm, 43, rfl⟩
abbrev main_v17 : Ref sig .tc := ⟨.hbm, 44, rfl⟩
abbrev main_call3_v0 : Ref sig .tc := ⟨.hbm, 45, rfl⟩
abbrev main_call3_cst : Ref sig .tc := ⟨.hbm, 46, rfl⟩
abbrev main_call3_v1 : Ref sig .tc := ⟨.hbm, 47, rfl⟩
abbrev main_v18 : Ref sig .tc := ⟨.hbm, 48, rfl⟩
abbrev main_values : Ref sig .tc := ⟨.hbm, 49, rfl⟩
abbrev main_indices : Ref sig .tc := ⟨.hbm, 50, rfl⟩
abbrev main_v19 : Ref sig .tc := ⟨.hbm, 51, rfl⟩
abbrev main_call4_c : Ref sig .tc := ⟨.hbm, 52, rfl⟩
abbrev main_call4_v0 : Ref sig .tc := ⟨.hbm, 53, rfl⟩
abbrev main_call4_v1 : Ref sig .tc := ⟨.hbm, 54, rfl⟩
abbrev main_call4_c_0 : Ref sig .tc := ⟨.hbm, 55, rfl⟩
abbrev main_call4_v2 : Ref sig .tc := ⟨.hbm, 56, rfl⟩
abbrev main_call4_v3 : Ref sig .tc := ⟨.hbm, 57, rfl⟩
abbrev main_call4_v4 : Ref sig .tc := ⟨.hbm, 58, rfl⟩
abbrev main_call4_c_1 : Ref sig .tc := ⟨.hbm, 59, rfl⟩
abbrev main_call4_c_2 : Ref sig .tc := ⟨.hbm, 60, rfl⟩
abbrev main_call4_v5 : Ref sig .tc := ⟨.hbm, 61, rfl⟩
abbrev main_call4_v6 : Ref sig .tc := ⟨.hbm, 62, rfl⟩
abbrev main_call4_v7 : Ref sig .tc := ⟨.hbm, 63, rfl⟩
abbrev main_call4_v8 : Ref sig .tc := ⟨.hbm, 64, rfl⟩
abbrev main_call4_v9 : Ref sig .tc := ⟨.hbm, 65, rfl⟩
abbrev main_call4_v10 : Ref sig .tc := ⟨.hbm, 66, rfl⟩
abbrev main_call4_c_3 : Ref sig .tc := ⟨.hbm, 67, rfl⟩
abbrev main_call4_v11 : Ref sig .tc := ⟨.hbm, 68, rfl⟩
abbrev main_call4_v12 : Ref sig .tc := ⟨.hbm, 69, rfl⟩
abbrev main_call4_v13 : Ref sig .tc := ⟨.hbm, 70, rfl⟩
abbrev main_call4_cst : Ref sig .tc := ⟨.hbm, 71, rfl⟩
abbrev main_call4_v14 : Ref sig .tc := ⟨.hbm, 72, rfl⟩
abbrev main_v20 : Ref sig .tc := ⟨.hbm, 73, rfl⟩
abbrev main_v21 : Ref sig .tc := ⟨.hbm, 74, rfl⟩
abbrev main_call5_c : Ref sig .tc := ⟨.hbm, 75, rfl⟩
abbrev main_call5_v0 : Ref sig .tc := ⟨.hbm, 76, rfl⟩
abbrev main_call5_v1 : Ref sig .tc := ⟨.hbm, 77, rfl⟩
abbrev main_call5_c_0 : Ref sig .tc := ⟨.hbm, 78, rfl⟩
abbrev main_call5_v2 : Ref sig .tc := ⟨.hbm, 79, rfl⟩
abbrev main_call5_v3 : Ref sig .tc := ⟨.hbm, 80, rfl⟩
abbrev main_call5_v4 : Ref sig .tc := ⟨.hbm, 81, rfl⟩
abbrev main_call5_c_1 : Ref sig .tc := ⟨.hbm, 82, rfl⟩
abbrev main_call5_c_2 : Ref sig .tc := ⟨.hbm, 83, rfl⟩
abbrev main_call5_v5 : Ref sig .tc := ⟨.hbm, 84, rfl⟩
abbrev main_call5_v6 : Ref sig .tc := ⟨.hbm, 85, rfl⟩
abbrev main_call5_v7 : Ref sig .tc := ⟨.hbm, 86, rfl⟩
abbrev main_call5_v8 : Ref sig .tc := ⟨.hbm, 87, rfl⟩
abbrev main_call5_v9 : Ref sig .tc := ⟨.hbm, 88, rfl⟩
abbrev main_call5_v10 : Ref sig .tc := ⟨.hbm, 89, rfl⟩
abbrev main_call5_c_3 : Ref sig .tc := ⟨.hbm, 90, rfl⟩
abbrev main_call5_v11 : Ref sig .tc := ⟨.hbm, 91, rfl⟩
abbrev main_call5_v12 : Ref sig .tc := ⟨.hbm, 92, rfl⟩
abbrev main_call5_v13 : Ref sig .tc := ⟨.hbm, 93, rfl⟩
abbrev main_call5_cst : Ref sig .tc := ⟨.hbm, 94, rfl⟩
abbrev main_call5_v14 : Ref sig .tc := ⟨.hbm, 95, rfl⟩
abbrev main_v22 : Ref sig .tc := ⟨.hbm, 96, rfl⟩
abbrev main_v23 : Ref sig .tc := ⟨.hbm, 97, rfl⟩
abbrev main_v24 : Ref sig .tc := ⟨.hbm, 98, rfl⟩
abbrev main_v25 : Ref sig .tc := ⟨.hbm, 99, rfl⟩
abbrev main_v26 : Ref sig .tc := ⟨.hbm, 100, rfl⟩
abbrev main_v27 : Ref sig .tc := ⟨.hbm, 101, rfl⟩
abbrev main_v28 : Ref sig .tc := ⟨.hbm, 102, rfl⟩
abbrev main_v29 : Ref sig .tc := ⟨.hbm, 103, rfl⟩
abbrev main_v30 : Ref sig .tc := ⟨.hbm, 104, rfl⟩
abbrev main_call6_cst : Ref sig .tc := ⟨.hbm, 105, rfl⟩
abbrev main_call6_v0 : Ref sig .tc := ⟨.hbm, 106, rfl⟩
abbrev main_v31 : Ref sig .tc := ⟨.hbm, 107, rfl⟩
abbrev main_v32 : Ref sig .tc := ⟨.hbm, 108, rfl⟩
abbrev main_v33 : Ref sig .tc := ⟨.hbm, 109, rfl⟩
abbrev main_v34 : Ref sig .tc := ⟨.hbm, 110, rfl⟩
abbrev main_v35 : Ref sig .tc := ⟨.hbm, 111, rfl⟩
abbrev main_call7_cst : Ref sig .tc := ⟨.hbm, 112, rfl⟩
abbrev main_call7_v0 : Ref sig .tc := ⟨.hbm, 113, rfl⟩
abbrev main_v36 : Ref sig .tc := ⟨.hbm, 114, rfl⟩
abbrev main_v37 : Ref sig .tc := ⟨.hbm, 115, rfl⟩
abbrev main_v38 : Ref sig .tc := ⟨.hbm, 116, rfl⟩
abbrev main_v39 : Ref sig .tc := ⟨.hbm, 117, rfl⟩
abbrev main_v40 : Ref sig .tc := ⟨.hbm, 118, rfl⟩
abbrev main_v41 : Ref sig .tc := ⟨.hbm, 119, rfl⟩
abbrev main_call8_cst : Ref sig .tc := ⟨.hbm, 120, rfl⟩
abbrev main_call8_v0 : Ref sig .tc := ⟨.hbm, 121, rfl⟩
abbrev main_v42 : Ref sig .tc := ⟨.hbm, 122, rfl⟩
abbrev main_v43 : Ref sig .tc := ⟨.hbm, 123, rfl⟩
abbrev main_v44 : Ref sig .tc := ⟨.hbm, 124, rfl⟩
abbrev main_v45 : Ref sig .tc := ⟨.hbm, 125, rfl⟩
abbrev main_v46 : Ref sig .tc := ⟨.hbm, 126, rfl⟩
abbrev main_v47 : Ref sig .tc := ⟨.hbm, 127, rfl⟩
abbrev main_v48 : Ref sig .tc := ⟨.hbm, 128, rfl⟩
abbrev main_v49 : Ref sig .tc := ⟨.hbm, 129, rfl⟩
abbrev main_v50 : Ref sig .tc := ⟨.hbm, 130, rfl⟩
abbrev main_call9_cst : Ref sig .tc := ⟨.hbm, 131, rfl⟩
abbrev main_call9_v0 : Ref sig .tc := ⟨.hbm, 132, rfl⟩
abbrev main_v51 : Ref sig .tc := ⟨.hbm, 133, rfl⟩
abbrev main_v52 : Ref sig .tc := ⟨.hbm, 134, rfl⟩
abbrev main_v53 : Ref sig .tc := ⟨.hbm, 135, rfl⟩
abbrev main_v54 : Ref sig .tc := ⟨.hbm, 136, rfl⟩
abbrev main_v55 : Ref sig .tc := ⟨.hbm, 137, rfl⟩
abbrev main_call10_cst : Ref sig .tc := ⟨.hbm, 138, rfl⟩
abbrev main_call10_v0 : Ref sig .tc := ⟨.hbm, 139, rfl⟩
abbrev main_v56 : Ref sig .tc := ⟨.hbm, 140, rfl⟩
abbrev main_v57 : Ref sig .tc := ⟨.hbm, 141, rfl⟩
abbrev main_v58 : Ref sig .tc := ⟨.hbm, 142, rfl⟩
abbrev main_v59 : Ref sig .tc := ⟨.hbm, 143, rfl⟩
abbrev main_v60 : Ref sig .tc := ⟨.hbm, 144, rfl⟩
abbrev main_v61 : Ref sig .tc := ⟨.hbm, 145, rfl⟩
abbrev main_call11_cst : Ref sig .tc := ⟨.hbm, 146, rfl⟩
abbrev main_call11_v0 : Ref sig .tc := ⟨.hbm, 147, rfl⟩
abbrev main_v62 : Ref sig .tc := ⟨.hbm, 148, rfl⟩
abbrev main_v63 : Ref sig .tc := ⟨.hbm, 149, rfl⟩
abbrev main_cst : Ref sig .tc := ⟨.hbm, 150, rfl⟩
abbrev main_v64 : Ref sig .tc := ⟨.hbm, 151, rfl⟩
abbrev main_v65 : Ref sig .tc := ⟨.hbm, 152, rfl⟩
abbrev main_v66 : Ref sig .tc := ⟨.hbm, 153, rfl⟩
abbrev main_v67 : Ref sig .tc := ⟨.hbm, 154, rfl⟩
abbrev main_c : Ref sig .tc := ⟨.hbm, 155, rfl⟩
abbrev main_v68 : Ref sig .tc := ⟨.hbm, 156, rfl⟩
abbrev main_v69 : Ref sig .tc := ⟨.hbm, 157, rfl⟩
abbrev main_c_0 : Ref sig .tc := ⟨.hbm, 158, rfl⟩
abbrev main_v70 : Ref sig .tc := ⟨.hbm, 159, rfl⟩
abbrev main_v71 : Ref sig .tc := ⟨.hbm, 160, rfl⟩
abbrev main_v72 : Ref sig .tc := ⟨.hbm, 161, rfl⟩
abbrev main_c_1 : Ref sig .tc := ⟨.hbm, 162, rfl⟩
abbrev main_v73 : Ref sig .tc := ⟨.hbm, 163, rfl⟩
abbrev main_v74 : Ref sig .tc := ⟨.hbm, 164, rfl⟩
abbrev main_c_2 : Ref sig .tc := ⟨.hbm, 165, rfl⟩
abbrev main_v75 : Ref sig .tc := ⟨.hbm, 166, rfl⟩
abbrev main_v76 : Ref sig .tc := ⟨.hbm, 167, rfl⟩
abbrev main_v77 : Ref sig .tc := ⟨.hbm, 168, rfl⟩
abbrev main_v78 : Ref sig .tc := ⟨.hbm, 169, rfl⟩
abbrev main_v79 : Ref sig .tc := ⟨.hbm, 170, rfl⟩
abbrev main_v80 : Ref sig .tc := ⟨.hbm, 171, rfl⟩
abbrev main_v81 : Ref sig .tc := ⟨.hbm, 172, rfl⟩
abbrev main_v82 : Ref sig .tc := ⟨.hbm, 173, rfl⟩

abbrev nD : Nat := 1
abbrev τ : Topo := Topo.v7x

variable {F : FTy → Type} [FloatOps F]
-- ==== Proof.KRun.lean ====
/- What one run of the kernel's program leaves: the result array at the fold of its segments, and the arguments as launched. -/
module

public import proofs.«01_k».proof.Proof.Gen.KernelIdeal.Frame

@[expose] public section

set_option maxRecDepth 16384

noncomputable section

namespace Cert.Murel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the implicit arguments of the launch are found by unifying its conclusion with this one
set_option backward.isDefEq.respectTransparency.types false in
/-- Every execution of the kernel's program ends, with the result array at the last boundary's contents and every argument as launched. -/
theorem krun : θ_run defs (onTc (τ := τ) (main (F := F))) ⟨m, fun _ => 0, ρ⟩ (fun r => ∀ c : Dev nD,
      r.2.mem ((c.tc : Thread nD τ).loc main_v13) = W5 m ρ c (Proc.devRef .tc main_v13)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ => (fun c =>
      ⟨h c _ (mem_uc main_v13 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c),
       (h c _ (mem_uc main_arg12 (by decide))).trans (W5_main_arg12 m ρ c),
       (h c _ (mem_uc main_arg13 (by decide))).trans (W5_main_arg13 m ρ c),
       (h c _ (mem_uc main_arg14 (by decide))).trans (W5_main_arg14 m ρ c),
       (h c _ (mem_uc main_arg15 (by decide))).trans (W5_main_arg15 m ρ c),
       (h c _ (mem_uc main_arg16 (by decide))).trans (W5_main_arg16 m ρ c),
       (h c _ (mem_uc main_arg17 (by decide))).trans (W5_main_arg17 m ρ c),
       (h c _ (mem_uc main_arg18 (by decide))).trans (W5_main_arg18 m ρ c),
       (h c _ (mem_uc main_arg19 (by decide))).trans (W5_main_arg19 m ρ c),
       (h c _ (mem_uc main_arg20 (by decide))).trans (W5_main_arg20 m ρ c)⟩))

end Cert.Murel

end
-- ==== Proof.Rank.lean ====
/- The order in which a stable descending sort takes its elements, and the rank of an element in it: two spellings of one permutation. -/
module

public import Idealize.ShloMosaic.Lib.SortFacts
public import Mathlib.Data.Fintype.Card
public import Mathlib.Order.Interval.Finset.Fin

@[expose] public section

namespace Cert.Murel

open Idealize.ShloMosaic

section order
variable {α : Type} [LinearOrder α] {n : Nat} (key : Fin n → α)

/-- Element `a` comes before element `b`: its key is larger, or the keys are equal and its position is lower. -/
def Ahead (a b : Fin n) : Prop := key b < key a ∨ (key a = key b ∧ a < b)

/-- The relation is decidable. -/
instance (a b : Fin n) : Decidable (Ahead key a b) := by unfold Ahead; infer_instance

variable {key}

/-- Coming before is transitive. -/
theorem Ahead.trans {a b c : Fin n} (h : Ahead key a b) (g : Ahead key b c) : Ahead key a c := by
  rcases h with h | ⟨h, h'⟩ <;> rcases g with g | ⟨g, g'⟩
  · exact .inl (g.trans h)
  · exact .inl (g ▸ h)
  · exact .inl (h ▸ g)
  · exact .inr ⟨h.trans g, h'.trans g'⟩

/-- Nothing comes before itself. -/
theorem Ahead.irrefl (a : Fin n) : ¬ Ahead key a a := by
  rintro (h | ⟨-, h⟩) <;> exact lt_irrefl _ h

/-- Of two elements not both come before the other. -/
theorem Ahead.asymm {a b : Fin n} (h : Ahead key a b) : ¬ Ahead key b a := fun g => Ahead.irrefl a (h.trans g)

variable (key)

/-- The comparison a descending sort is run with. -/
def larger (a b : Fin n) : Bool := decide (key b < key a)

/-- Inserting a position below all those of a list already in order keeps the list in order. -/
theorem pairwise_insert (a : Fin n) (l : List (Fin n)) (ha : ∀ b ∈ l, a < b) (hl : l.Pairwise (Ahead key)) :
    (insertBefore (larger key) a l).Pairwise (Ahead key) := by
  induction l with
  | nil => exact List.pairwise_singleton _ _
  | cons b l ih =>
    rw [List.pairwise_cons] at hl
    unfold insertBefore
    split
    · rename_i h
      refine List.pairwise_cons.mpr ⟨fun c hc => ?_, ih (fun c hc => ha c (List.mem_cons_of_mem _ hc)) hl.2⟩
      rcases List.mem_cons.mp ((perm_insertBefore (larger key) a l).mem_iff.mp hc) with rfl | hc'
      · exact .inl (of_decide_eq_true h)
      · exact hl.1 c hc'
    · rename_i h
      have hab : Ahead key a b := by
        have hle : key b ≤ key a := not_lt.1 fun g => h (decide_eq_true g)
        rcases hle.lt_or_eq with g | g
        · exact .inl g
        · exact .inr ⟨g.symm, ha b List.mem_cons_self⟩
      refine List.pairwise_cons.mpr ⟨fun c hc => ?_, List.pairwise_cons.mpr hl⟩
      rcases List.mem_cons.mp hc with rfl | hc'
      · exact hab
      · exact hab.trans (hl.1 c hc')

/-- The stable descending sort of an increasing list of positions is in the order `Ahead`. -/
theorem pairwise_sort (l : List (Fin n)) (hl : l.Pairwise (· < ·)) : (stableSort (larger key) l).Pairwise (Ahead key) := by
  induction l with
  | nil => exact List.Pairwise.nil
  | cons a l ih =>
    rw [List.pairwise_cons] at hl
    unfold stableSort
    exact pairwise_insert key a _ (fun b hb => hl.1 b ((perm_stableSort _ l).mem_iff.mp hb)) (ih hl.2)

/-- The position whose element the stable descending sort puts at place `k`. -/
def sel (k : Fin n) : Fin n := sortedFrom (larger key) k

/-- How many elements come before element `r`. -/
def rank (r : Fin n) : Nat := (Finset.univ.filter fun r' => Ahead key r' r).card

/-- The element at a lower place of the sorted order comes before. -/
theorem sel_ahead (i j : Fin n) (hij : i < j) : Ahead key (sel key i) (sel key j) := by
  have hp := List.pairwise_iff_get.mp (pairwise_sort key (List.finRange n) (List.pairwise_lt_finRange n))
  exact hp (i.cast (length_sortPositions n (larger key)).symm) (j.cast (length_sortPositions n (larger key)).symm) hij

/-- An element comes before another exactly when its place in the sorted order is lower. -/
theorem sel_ahead_iff (i j : Fin n) : Ahead key (sel key i) (sel key j) ↔ i < j := by
  refine ⟨fun h => ?_, sel_ahead key i j⟩
  rcases lt_trichotomy i j with g | g | g
  · exact g
  · subst g; exact (Ahead.irrefl _ h).elim
  · exact (h.asymm (sel_ahead key j i g)).elim

/-- The element at place `k` of the sort has rank `k`. -/
theorem rank_sel (k : Fin n) : rank key (sel key k) = k.val := by
  have e : (Finset.univ.filter fun r' => Ahead key r' (sel key k)) = (Finset.univ.filter fun i : Fin n => i < k).image (sel key) := by
    ext r
    simp only [Finset.mem_filter, Finset.mem_univ, true_and, Finset.mem_image]
    constructor
    · intro h
      obtain ⟨i, rfl⟩ := sortedFrom_surjective (larger key) r
      exact ⟨i, (sel_ahead_iff key i k).1 h, rfl⟩
    · rintro ⟨i, h, rfl⟩
      exact sel_ahead key i k h
  unfold rank
  rw [e, Finset.card_image_of_injective _ (show Function.Injective (sel key) from sortedFrom_injective _)]
  rw [show (Finset.univ.filter fun i : Fin n => i < k) = Finset.Iio k from by ext i; simp]
  exact Fin.card_Iio k

/-- Element `r` has rank `k` exactly when it is the one at place `k`. -/
theorem rank_eq_iff (r : Fin n) (k : Fin n) : rank key r = k.val ↔ r = sel key k := by
  constructor
  · intro h
    obtain ⟨i, rfl⟩ := sortedFrom_surjective (larger key) r
    have := rank_sel key i
    unfold sel at this
    rw [this] at h
    rw [Fin.ext h]; rfl
  · rintro rfl; exact rank_sel key k

/-- A rank is less than the number of elements. -/
theorem rank_lt (r : Fin n) : rank key r < n := by
  obtain ⟨i, rfl⟩ := sortedFrom_surjective (larger key) r
  have := rank_sel key i
  unfold sel at this
  rw [this]; exact i.isLt

end order

end Cert.Murel

end
-- ==== Proof.Spec.lean ====
/- What the layer computes, one image at a time, on extended reals: the pairwise fusion of the sixteen regions of largest norm, added back onto their rows. -/
module

public import Idealize.ShloMosaic.Lib.Pointwise
public import proofs.«01_k».proof.Proof.Rank

@[expose] public section

noncomputable section

namespace Cert.Murel

open Idealize.ShloMosaic

/-- A dense layer with a rectifier: `max (x · W + b) 0` at output `j`. -/
def dense {K N : Nat} (x : Fin K → EReal) (W : Fin K → Fin N → EReal) (b : Fin N → EReal) (j : Fin N) : EReal :=
  max (∑ k, x k * W k j + b j) 0

/-- The fusion of two vectors: both through a dense layer each, their product through a third. -/
def mlb {A B C D : Nat} (x : Fin A → EReal) (y : Fin B → EReal) (W0 : Fin A → Fin C → EReal) (b0 : Fin C → EReal) (W1 : Fin B → Fin C → EReal)
    (b1 : Fin C → EReal) (Wo : Fin C → Fin D → EReal) (bo : Fin D → EReal) (d : Fin D) : EReal :=
  dense (fun n => dense x W0 b0 n * dense y W1 b1 n) Wo bo d

/-- The weights of the pairwise fusion. -/
structure PairW where
  p0 : Fin 2048 → Fin 300 → EReal
  bp0 : Fin 300 → EReal
  p1 : Fin 2048 → Fin 300 → EReal
  bp1 : Fin 300 → EReal
  po : Fin 300 → Fin 2048 → EReal
  bpo : Fin 2048 → EReal
  c0 : Fin 4 → Fin 32 → EReal
  bc0 : Fin 32 → EReal
  c1 : Fin 4 → Fin 32 → EReal
  bc1 : Fin 32 → EReal
  co : Fin 32 → Fin 2048 → EReal
  bco : Fin 2048 → EReal

/-- The fusion of two regions, each given by its features and its coordinates. -/
def pairVal (w : PairW) (mi mj : Fin 2048 → EReal) (ci cj : Fin 4 → EReal) (d : Fin 2048) : EReal :=
  mlb mi mj w.p0 w.bp0 w.p1 w.bp1 w.po w.bpo d + mlb ci cj w.c0 w.bc0 w.c1 w.bc1 w.co w.bco d

/-- The value a maximum starts from. -/
def negInf : EReal := Ideal.ofBits .f32 0xFF800000#32

/-- The squared norm of a region's row. -/
def crit {R : Nat} (M : Fin R → Fin 2048 → EReal) (r : Fin R) : EReal := ∑ d, M r d * M r d

/-- The region of the image that holds place `k` in the descending order of norms. -/
def pick (M : Fin 36 → Fin 2048 → EReal) (k : Fin 16) : Fin 36 := sel (crit M) ⟨k.val, by omega⟩

/-- The aggregate of place `i`: the largest fusion of its region with the regions of all sixteen places. -/
def agg (w : PairW) (M : Fin 36 → Fin 2048 → EReal) (C : Fin 36 → Fin 4 → EReal) (i : Fin 16) (d : Fin 2048) : EReal :=
  Finset.fold max negInf (fun j : Fin 16 => pairVal w (M (pick M i)) (M (pick M j)) (C (pick M i)) (C (pick M j)) d) Finset.univ

/-- The image's result: a region among the sixteen of largest norm gets its place's aggregate added, every other region keeps its row. -/
def image (w : PairW) (M : Fin 36 → Fin 2048 → EReal) (C : Fin 36 → Fin 4 → EReal) (r : Fin 36) (d : Fin 2048) : EReal :=
  if h : rank (crit M) r < 16 then M r d + agg w M C ⟨rank (crit M) r, h⟩ d else M r d

/-- The result at the region of a place: its row with the place's aggregate added. -/
theorem image_hit (w : PairW) (M : Fin 36 → Fin 2048 → EReal) (C : Fin 36 → Fin 4 → EReal) (r : Fin 36) (d : Fin 2048) (k : Fin 16) (h : r = pick M k) :
    image w M C r d = M r d + agg w M C k d := by
  have hk : rank (crit M) r = k.val := (rank_eq_iff (crit M) r ⟨k.val, by omega⟩).2 h
  have hl : rank (crit M) r < 16 := hk ▸ k.isLt
  unfold image
  rw [dif_pos hl]
  congr 2
  exact Fin.ext hk

/-- The result at a region of no place: its row. -/
theorem image_miss (w : PairW) (M : Fin 36 → Fin 2048 → EReal) (C : Fin 36 → Fin 4 → EReal) (r : Fin 36) (d : Fin 2048) (h : ∀ k : Fin 16, r ≠ pick M k) :
    image w M C r d = M r d := by
  unfold image
  refine dif_neg fun hl => h ⟨rank (crit M) r, hl⟩ ?_
  exact (rank_eq_iff (crit M) r ⟨rank (crit M) r, by omega⟩).1 rfl

end Cert.Murel

end
-- ==== Proof.KIndex.lean ====
/- The integer arrays of the kernel's second region: which image a row or a pair column belongs to, and the rank of a row among its image's rows. -/
module

public import proofs.«01_k».proof.Proof.Gen.KernelIdeal.Skeleton
public import proofs.«01_k».proof.Proof.Spec
public import Mathlib.Algebra.BigOperators.Fin

@[expose] public section

set_option maxRecDepth 16384

noncomputable section

namespace Cert.Murel

open Idealize.ShloMosaic Cert.KernelIdeal Cert.KernelIdeal.Gen

/-- Row `r` of image `g` among the 288 rows of a block. -/
def brow (g : Fin 8) (r : Fin 36) : Fin 288 := ⟨36 * g.val + r.val, by omega⟩

/-- Place `k` of image `g` among the 128 columns of a block. -/
def bcol (g : Fin 8) (k : Fin 16) : Fin 128 := ⟨16 * g.val + k.val, by omega⟩

/-- Each entry's row number. -/
abbrev rowIota : IVec S288x288 32 := iota .tc S288x288 32 [0] iota_S288x288_d0_w32
/-- Each entry's column number. -/
abbrev colIota : IVec S288x288 32 := iota .tc S288x288 32 [1] iota_S288x288_d1_w32
/-- Each entry's column number, in the array of places. -/
abbrev placeIota : IVec S288x128 32 := iota .tc S288x128 32 [1] iota_S288x128_d1_w32

/-- Comparisons against the multiples of 36 count the image of a row. -/
def imgWord (n : Nat) : BitVec 32 :=
  let s (k : BitVec 32) : BitVec 32 := BitVec.setWidth 32 (IntOp.cmpi .sge (BitVec.ofNat 32 n) k)
  IntOp.addi (IntOp.addi (IntOp.addi (IntOp.addi (IntOp.addi (IntOp.addi (IntOp.addi 0#32 (s 36#32)) (s 72#32)) (s 108#32)) (s 144#32)) (s 180#32)) (s 216#32)) (s 252#32)

/-- The word computed from a row's number is the number of its image. -/
theorem imgWord_eq : ∀ R : Fin 288, imgWord R.val = BitVec.ofNat 32 (R.val / 36) := by decide +kernel

/-- The image of an entry's row. -/
theorem rowImage (R C : Fin 288) : k1_pay6 rowIota k1_pay5 (ix2 R C) = BitVec.ofNat 32 (R.val / 36) := by
  rw [← imgWord_eq]
  pointwise [k1_pay5, k1_pay6]
  rfl

/-- The image of an entry's column. -/
theorem colImage (R C : Fin 288) : IntOp.addi (k1_pay7 colIota (ix2 R C)) (BitVec.setWidth 32 (k1_pay8 colIota (ix2 R C))) = BitVec.ofNat 32 (C.val / 36) := by
  rw [← imgWord_eq]
  pointwise [k1_pay7, k1_pay8]
  rfl

/-- The image of an entry's row, in the array of places. -/
theorem rowImage' (R : Fin 288) (C : Fin 128) : k1_pay10 (ix2 R C) = BitVec.ofNat 32 (R.val / 36) := by
  rw [← imgWord_eq]
  pointwise [k1_pay10]
  rfl

/-- A shift by four places is a quotient by sixteen. -/
theorem shr4 : ∀ C : Fin 128, IntOp.shrsi ArithUnit.vector (BitVec.ofNat 32 C.val) 4#32 = BitVec.ofNat 32 (C.val / 16) := by decide +kernel
/-- The low four bits are the remainder by sixteen. -/
theorem and15 : ∀ C : Fin 128, IntOp.andi (BitVec.ofNat 32 C.val) 15#32 = BitVec.ofNat 32 (C.val % 16) := by decide +kernel

/-- The image of a column of places. -/
theorem colImage' (R : Fin 288) (C : Fin 128) : k1_pay11 (ix2 R C) = BitVec.ofNat 32 (C.val / 16) := by
  rw [← shr4]
  pointwise [k1_pay11]

end Cert.Murel

end
-- ==== Proof.KRank.lean ====
/- The kernel's rank of a row: the count, over its image's rows, of those that come before it. -/
module

public import proofs.«01_k».proof.Proof.KIndex
public import Idealize.ShloMosaic.Lib.WordCmp

@[expose] public section

set_option maxRecDepth 16384

noncomputable section

namespace Cert.Murel

open Idealize.ShloMosaic Cert.KernelIdeal Cert.KernelIdeal.Gen

/-- A wrapping sum of one-bit words counts the true ones. -/
theorem fold_count {ι : Type} [DecidableEq ι] (s : Finset ι) (p : ι → Prop) [DecidablePred p] :
    Finset.fold IntOp.addi (0#32) (fun x => BitVec.setWidth 32 (BitVec.ofBool (decide (p x)))) s = BitVec.ofNat 32 (s.filter p).card := by
  induction s using Finset.induction_on with
  | empty => rfl
  | insert a s ha ih =>
    rw [Finset.fold_insert ha, ih, Finset.filter_insert]
    by_cases h : p a
    · rw [if_pos h, Finset.card_insert_of_notMem (by simp [ha])]
      simp only [h, decide_true, BitVec.ofBool_true]
      rw [Nat.add_comm, BitVec.ofNat_add]; rfl
    · rw [if_neg h]
      simp only [h, decide_false, BitVec.ofBool_false]
      exact BitVec.zero_add _

/-- Words of small numbers are equal when the numbers are. -/
theorem ofNat_eq_iff (a b : Nat) (ha : a < 2 ^ 32) (hb : b < 2 ^ 32) : BitVec.ofNat 32 a = BitVec.ofNat 32 b ↔ a = b := by
  constructor
  · intro h
    have := congrArg BitVec.toNat h
    rwa [BitVec.toNat_ofNat, BitVec.toNat_ofNat, Nat.mod_eq_of_lt ha, Nat.mod_eq_of_lt hb] at this
  · rintro rfl; rfl

/-- An equality test of words of small numbers. -/
theorem cmpi_eq_nat (a b : Nat) (ha : a < 2 ^ 32) (hb : b < 2 ^ 32) :
    IntOp.cmpi .eq (BitVec.ofNat 32 a) (BitVec.ofNat 32 b) = BitVec.ofBool (decide (a = b)) := by
  by_cases h : a = b
  · subst h; simp [IntOp.cmpi]
  · have : BitVec.ofNat 32 a ≠ BitVec.ofNat 32 b := fun g => h ((ofNat_eq_iff a b ha hb).1 g)
    have e : (BitVec.ofNat 32 a == BitVec.ofNat 32 b) = false := by simpa using this
    simp [IntOp.cmpi, h, e]

/-- A signed less-than of words of small numbers. -/
theorem cmpi_slt_nat (a b : Nat) (ha : a < 2 ^ 31) (hb : b < 2 ^ 31) :
    IntOp.cmpi .slt (BitVec.ofNat 32 a) (BitVec.ofNat 32 b) = BitVec.ofBool (decide (a < b)) := by
  have ea : (BitVec.ofNat 32 a).toInt = a := by
    rw [BitVec.toInt_eq_toNat_of_lt] <;> rw [BitVec.toNat_ofNat, Nat.mod_eq_of_lt (by omega)]; omega
  have eb : (BitVec.ofNat 32 b).toInt = b := by
    rw [BitVec.toInt_eq_toNat_of_lt] <;> rw [BitVec.toNat_ofNat, Nat.mod_eq_of_lt (by omega)]; omega
  by_cases h : a < b <;> simp [IntOp.cmpi, BitVec.slt, ea, eb, h]

/-- The conjunction of two truth bits. -/
theorem andi_ofBool (p q : Bool) : IntOp.andi (BitVec.ofBool p) (BitVec.ofBool q) = BitVec.ofBool (p && q) := by
  revert p q; decide
/-- The disjunction of two truth bits. -/
theorem ori_ofBool (p q : Bool) : IntOp.ori (BitVec.ofBool p) (BitVec.ofBool q) = BitVec.ofBool (p || q) := by
  revert p q; decide

/-- The squared norms of a block's rows, as the kernel keeps them for the ranks. -/
abbrev RankCol := FVec Ideal S288x1 .f32

/-- Row `x` of a block comes before row `R` in `R`'s image. -/
def BAhead (c : RankCol) (R x : Fin 288) : Prop :=
  R.val / 36 = x.val / 36 ∧ (c (ix2 R 0) < c (ix2 x 0) ∨ (c (ix2 x 0) = c (ix2 R 0) ∧ x.val < R.val))

/-- The relation is decidable. -/
instance (c : RankCol) (R x : Fin 288) : Decidable (BAhead c R x) := by unfold BAhead; infer_instance

/-- The kernel's rank array. -/
def rankArr (c : RankCol) : IVec S288x1 32 :=
  k1_pay9 c rowIota colIota (k1_pay6 rowIota k1_pay5) (k1_pay7 colIota) (k1_pay8 colIota)

/-- The computed rank of a row counts the rows ahead of it in its image. -/
theorem rankArr_count (c : RankCol) (R : Fin 288) :
    rankArr c (ix2 R 0) = BitVec.ofNat 32 (Finset.univ.filter fun x => BAhead c R x).card := by
  rw [← fold_count]
  unfold rankArr
  pointwise [k1_pay9]
  refine congrArg (fun f => Finset.fold IntOp.addi (0#32) f Finset.univ) (funext fun x => ?_)
  refine congrArg (BitVec.setWidth 32) ?_
  rw [rowImage, colImage, cmpi_eq_nat _ _ (by omega) (by omega)]
  rw [cmpi_slt_nat _ _ (by omega) (by omega)]
  rw [andi_ofBool, ori_ofBool, andi_ofBool]
  unfold BAhead
  refine congrArg BitVec.ofBool (Bool.eq_iff_iff.2 ?_)
  simp only [Bool.and_eq_true, Bool.or_eq_true, decide_eq_true_eq]
  constructor
  · rintro ⟨h1, h2⟩
    exact decide_eq_true ⟨h1, h2.imp of_decide_eq_true (And.imp_left of_decide_eq_true)⟩
  · intro h
    have := of_decide_eq_true h
    exact ⟨this.1, this.2.imp decide_eq_true (And.imp_left decide_eq_true)⟩

/-- The count over the block is the rank within the image. -/
theorem card_ahead (c : RankCol) (g : Fin 8) (r : Fin 36) :
    (Finset.univ.filter fun x => BAhead c (brow g r) x).card = rank (fun r' : Fin 36 => c (ix2 (brow g r') 0)) r := by
  unfold rank
  refine (Finset.card_bij (fun r' _ => brow g r') ?_ ?_ ?_).symm
  · intro r' h
    simp only [Finset.mem_filter, Finset.mem_univ, true_and] at h ⊢
    refine ⟨by unfold brow; simp only; omega, ?_⟩
    rcases h with h | ⟨h, h'⟩
    · exact .inl h
    · exact .inr ⟨h, by unfold brow; simp only; omega⟩
  · intro a _ b _ h
    have := congrArg Fin.val h
    unfold brow at this; simp only at this
    exact Fin.ext (by omega)
  · intro x h
    simp only [Finset.mem_filter, Finset.mem_univ, true_and] at h
    obtain ⟨h1, h2⟩ := h
    have hx : x = brow g ⟨x.val % 36, Nat.mod_lt _ (by decide)⟩ := Fin.ext (by unfold brow at *; simp only at *; omega)
    refine ⟨⟨x.val % 36, Nat.mod_lt _ (by decide)⟩, ?_, hx.symm⟩
    simp only [Finset.mem_filter, Finset.mem_univ, true_and]
    rcases h2 with h | ⟨h, h'⟩
    · refine .inl ?_
      simp only; rw [← hx]; exact h
    · refine .inr ⟨by simp only; rw [← hx]; exact h, ?_⟩
      rw [Fin.lt_def]; unfold brow at *; simp only at *; omega

/-- The computed rank of a row is its rank in its image. -/
theorem rankArr_eq (c : RankCol) (g : Fin 8) (r : Fin 36) :
    rankArr c (ix2 (brow g r) 0) = BitVec.ofNat 32 (rank (fun r' : Fin 36 => c (ix2 (brow g r') 0)) r) := by
  rw [rankArr_count, card_ahead]

/-- The kernel's one-hot array: row against place column. -/
def oneHot (c : RankCol) : FVec Ideal S288x128 .f32 := k1_pay12 (F := Ideal) (rankArr c) placeIota k1_pay10 k1_pay11

/-- An entry of the one-hot array is one where the row holds the column's place in the column's image, zero elsewhere. -/
theorem oneHot_eq (c : RankCol) (g : Fin 8) (r : Fin 36) (g' : Fin 8) (k : Fin 16) :
    oneHot c (ix2 (brow g r) (bcol g' k)) = if g = g' ∧ r = sel (fun r' : Fin 36 => c (ix2 (brow g r') 0)) ⟨k.val, by omega⟩ then (1 : EReal) else 0 := by
  unfold oneHot
  pointwise [k1_pay12]
  rw [rowImage', colImage', rankArr_eq, and15, cmpi_eq_nat _ _ (by omega) (by omega)]
  rw [cmpi_eq_nat _ _ ((rank_lt _ _).trans (by decide)) (by omega), andi_ofBool]
  have e1 : (brow g r).val / 36 = g.val := by unfold brow; simp only; omega
  have e2 : (bcol g' k).val / 16 = g'.val := by unfold bcol; simp only; omega
  have e3 : (bcol g' k).val % 16 = k.val := by unfold bcol; simp only; omega
  rw [e1, e2, e3]
  have e4 : (g.val = g'.val) ↔ g = g' := Fin.ext_iff.symm
  have e5 := rank_eq_iff (fun r' : Fin 36 => c (ix2 (brow g r') 0)) r ⟨k.val, by omega⟩
  simp only at e5
  by_cases h : g = g' ∧ r = sel (fun r' : Fin 36 => c (ix2 (brow g r') 0)) ⟨k.val, by omega⟩
  · rw [if_pos h]
    have : (decide (g.val = g'.val) && decide (rank (fun r' : Fin 36 => c (ix2 (brow g r') 0)) r = k.val)) = true := by
      rw [Bool.and_eq_true, decide_eq_true_iff, decide_eq_true_iff]; exact ⟨e4.2 h.1, e5.2 h.2⟩
    rw [this]
    change ((((BitVec.setWidth 32 (BitVec.ofBool true)).toInt : ℝ)) : EReal) = 1
    rw [show (BitVec.setWidth 32 (BitVec.ofBool true)).toInt = 1 from by decide]; simp
  · rw [if_neg h]
    have : (decide (g.val = g'.val) && decide (rank (fun r' : Fin 36 => c (ix2 (brow g r') 0)) r = k.val)) = false := by
      rw [← Bool.not_eq_true, Bool.and_eq_true, decide_eq_true_iff, decide_eq_true_iff]; exact fun q => h ⟨e4.1 q.1, e5.1 q.2⟩
    rw [this]
    change ((((BitVec.setWidth 32 (BitVec.ofBool false)).toInt : ℝ)) : EReal) = 0
    rw [show (BitVec.setWidth 32 (BitVec.ofBool false)).toInt = 0 from by decide]; simp

/-- The squared norms of image `g`'s rows, off the column. -/
abbrev keyOf (c : RankCol) (g : Fin 8) (r : Fin 36) : EReal := c (ix2 (brow g r) 0)

/-- Every row of a block is a row of one of its images. -/
theorem brow_surj (x : Fin 288) : ∃ g r, x = brow g r :=
  ⟨⟨x.val / 36, by omega⟩, ⟨x.val % 36, Nat.mod_lt _ (by decide)⟩, Fin.ext (by unfold brow; simp only; omega)⟩

/-- Every column of places is a place of one of the images. -/
theorem bcol_surj (x : Fin 128) : ∃ g k, x = bcol g k :=
  ⟨⟨x.val / 16, by omega⟩, ⟨x.val % 16, Nat.mod_lt _ (by decide)⟩, Fin.ext (by unfold bcol; simp only; omega)⟩

/-- A column of the one-hot array against any values of the rows picks the value at the row that holds the column's place. -/
theorem sum_col (c : RankCol) (g : Fin 8) (k : Fin 16) (f : Fin 288 → EReal) :
    ∑ x, oneHot c (ix2 x (bcol g k)) * f x = f (brow g (sel (keyOf c g) ⟨k.val, by omega⟩)) := by
  rw [Finset.sum_eq_single (brow g (sel (keyOf c g) ⟨k.val, by omega⟩))]
  · rw [oneHot_eq, if_pos ⟨rfl, rfl⟩, one_mul]
  · intro x _ hx
    obtain ⟨g', r, rfl⟩ := brow_surj x
    rw [oneHot_eq, if_neg, zero_mul]
    rintro ⟨rfl, h⟩
    exact hx (by rw [h])
  · intro h; exact (h (Finset.mem_univ _)).elim

/-- A row of the one-hot array against any values of the places: the value at the row's place, if the row holds one. -/
theorem sum_row_hit (c : RankCol) (g : Fin 8) (k : Fin 16) (f : Fin 128 → EReal) :
    ∑ x, oneHot c (ix2 (brow g (sel (keyOf c g) ⟨k.val, by omega⟩)) x) * f x = f (bcol g k) := by
  rw [Finset.sum_eq_single (bcol g k)]
  · rw [oneHot_eq, if_pos ⟨rfl, rfl⟩, one_mul]
  · intro x _ hx
    obtain ⟨g', k', rfl⟩ := bcol_surj x
    rw [oneHot_eq, if_neg, zero_mul]
    rintro ⟨rfl, h⟩
    have := congrArg Fin.val (sortedFrom_injective _ h)
    exact hx (by rw [show k' = k from Fin.ext this.symm])
  · intro h; exact (h (Finset.mem_univ _)).elim

/-- A row that holds none of the sixteen places meets only zeros. -/
theorem sum_row_miss (c : RankCol) (g : Fin 8) (r : Fin 36) (h : ∀ k : Fin 16, r ≠ sel (keyOf c g) ⟨k.val, by omega⟩) (f : Fin 128 → EReal) :
    ∑ x, oneHot c (ix2 (brow g r) x) * f x = 0 := by
  refine Finset.sum_eq_zero fun x _ => ?_
  obtain ⟨g', k', rfl⟩ := bcol_surj x
  rw [oneHot_eq, if_neg (fun q => h k' q.2), zero_mul]

end Cert.Murel

end
-- ==== Proof.KBlock.lean ====
/- What one block of the kernel's second region computes from its fused rows: eight images' results. -/
module

public import proofs.«01_k».proof.Proof.KRank

@[expose] public section

set_option maxRecDepth 16384

noncomputable section

namespace Cert.Murel

open Idealize.ShloMosaic Cert.KernelIdeal Cert.KernelIdeal.Gen

/-- A two-axis array as a function of its two coordinates. -/
abbrev mat {a b : Nat} (w : FVec Ideal ⟨2, ![a, b]⟩ .f32) (k : Fin a) (n : Fin b) : EReal := w (ix2 k n)

/-- The one row of an array of one row. -/
abbrev row0 {b : Nat} (w : FVec Ideal ⟨2, ![1, b]⟩ .f32) (n : Fin b) : EReal := w (ix2 0 n)

/-- The rows of image `g` of a block. -/
abbrev imgRows {b : Nat} (v : FVec Ideal ⟨2, ![288, b]⟩ .f32) (g : Fin 8) (r : Fin 36) (d : Fin b) : EReal := v (ix2 (brow g r) d)

section picked
variable (v20 : FVec Ideal S288x2048 .f32) (z : FVec Ideal S288x4 .f32) (c : RankCol)

/-- A dense layer over the rows picked for the places, for the features. -/
theorem feat0 (w : Vec Ideal S2048x300 .f32) (b : Vec Ideal S1x300 .f32) (g : Fin 8) (k : Fin 16) (n : Fin 300) :
    k1_pay15 v20 (rankArr c) placeIota k1_pay10 k1_pay11 w b (ix2 (bcol g k) n)
      = dense (imgRows v20 g (sel (keyOf c g) ⟨k.val, by omega⟩)) (mat w) (row0 b) n := by
  pointwise [k1_pay15, k1_pay13]
  unfold dense
  refine congrArg (fun s => max (s + b (ix2 0 n)) 0) (Finset.sum_congr rfl fun x _ => ?_)
  exact congrArg (· * w (ix2 x n)) (sum_col c g k fun y => v20 (ix2 y x))

/-- The same for the second branch's weights. -/
theorem feat1 (w : Vec Ideal S2048x300 .f32) (b : Vec Ideal S1x300 .f32) (g : Fin 8) (k : Fin 16) (n : Fin 300) :
    k1_pay16 v20 (rankArr c) placeIota k1_pay10 k1_pay11 w b (ix2 (bcol g k) n)
      = dense (imgRows v20 g (sel (keyOf c g) ⟨k.val, by omega⟩)) (mat w) (row0 b) n := by
  pointwise [k1_pay16, k1_pay13]
  unfold dense
  refine congrArg (fun s => max (s + b (ix2 0 n)) 0) (Finset.sum_congr rfl fun x _ => ?_)
  exact congrArg (· * w (ix2 x n)) (sum_col c g k fun y => v20 (ix2 y x))

/-- A dense layer over the rows picked for the places, for the coordinates. -/
theorem coord0 (w : Vec Ideal S4x32 .f32) (b : Vec Ideal S1x32 .f32) (g : Fin 8) (k : Fin 16) (n : Fin 32) :
    k1_pay17 z (rankArr c) placeIota k1_pay10 k1_pay11 w b (ix2 (bcol g k) n)
      = dense (imgRows z g (sel (keyOf c g) ⟨k.val, by omega⟩)) (mat w) (row0 b) n := by
  pointwise [k1_pay17, k1_pay14]
  unfold dense
  refine congrArg (fun s => max (s + b (ix2 0 n)) 0) (Finset.sum_congr rfl fun x _ => ?_)
  exact congrArg (· * w (ix2 x n)) (sum_col c g k fun y => z (ix2 y x))

/-- The same for the second branch's weights. -/
theorem coord1 (w : Vec Ideal S4x32 .f32) (b : Vec Ideal S1x32 .f32) (g : Fin 8) (k : Fin 16) (n : Fin 32) :
    k1_pay19 (k1_pay18 z (rankArr c) placeIota k1_pay10 k1_pay11 w) b (ix2 (bcol g k) n)
      = dense (imgRows z g (sel (keyOf c g) ⟨k.val, by omega⟩)) (mat w) (row0 b) n := by
  pointwise [k1_pay19, k1_pay18, k1_pay14]
  unfold dense
  refine congrArg (fun s => max (s + b (ix2 0 n)) 0) (Finset.sum_congr rfl fun x _ => ?_)
  exact congrArg (· * w (ix2 x n)) (sum_col c g k fun y => z (ix2 y x))

end picked

section pairs
variable (zi zj : FVec Ideal S128x300 .f32) (yi : FVec Ideal S128x32 .f32) (y1 : FVec Ideal S128x32 .f32) (b1 : Vec Ideal S1x32 .f32)
  (wp : Vec Ideal S300x2048 .f32) (bp : Vec Ideal S1x2048 .f32) (wc : Vec Ideal S32x2048 .f32) (bc : Vec Ideal S1x2048 .f32)

/-- The fusion of places `p` and `p'` of a block, off the branches' arrays. -/
def colPair (p p' : Fin 128) (d : Fin 2048) : EReal :=
  dense (fun n => zi (ix2 p n) * zj (ix2 p' n)) (mat wp) (row0 bp) d
    + dense (fun n => yi (ix2 p n) * k1_pay19 y1 b1 (ix2 p' n)) (mat wc) (row0 bc) d

/-- The largest fusion of place `p` with the sixteen places of its image. -/
def colAgg (p : Fin 128) (d : Fin 2048) : EReal :=
  Finset.fold max negInf (fun j : Fin 16 => colPair zi zj yi y1 b1 wp bp wc bc p ⟨p.val / 16 * 16 + j.val, by omega⟩ d) Finset.univ

/-- The aggregates of the first four images of a block, place by place. -/
theorem firstHalf (q : Fin 64) (d : Fin 2048) :
    k1_pay23 (k1_pay20 zi zj wp bp) (k1_pay21 yi y1 b1 wc bc) k1_pay22 (ix2 q d)
      = colAgg zi zj yi y1 b1 wp bp wc bc ⟨q.val, by omega⟩ d := by
  pointwise [k1_pay23, k1_pay22]
  unfold colAgg negInf
  refine congrArg (fun f => Finset.fold max (Ideal.ofBits .f32 0xFF800000#32) f Finset.univ) (funext fun j => ?_)
  unfold colPair dense
  pointwise [k1_pay20, k1_pay21]
  have e2 : (⟨(q.val * 16 + j.val) / 256 * 16 + j.val, by omega⟩ : Fin 128) = ⟨q.val / 16 * 16 + j.val, by omega⟩ :=
    Fin.ext (by simp only; omega)
  refine congrArg₂ (· + ·) (congrArg (fun s => max (s + bp (ix2 0 d)) 0) (Finset.sum_congr rfl fun x _ => ?_))
    (congrArg (fun s => max (s + bc (ix2 0 d)) 0) (Finset.sum_congr rfl fun x _ => ?_))
  · exact congrArg (fun t => zi (ix2 ⟨q.val, by omega⟩ x) * zj (ix2 t x) * wp (ix2 x d)) e2
  · exact congrArg (fun t => yi (ix2 ⟨q.val, by omega⟩ x) * k1_pay19 y1 b1 (ix2 t x) * wc (ix2 x d)) e2

/-- The aggregates of the last four images of a block, place by place. -/
theorem secondHalf (q : Fin 64) (d : Fin 2048) :
    Finset.fold max (Ideal.ofBits .f32 0xFF800000#32) (fun j : Fin 16 => k1_pay24 zi zj yi (k1_pay19 y1 b1) wp bp wc bc (ix3 q j d)) Finset.univ
      = colAgg zi zj yi y1 b1 wp bp wc bc ⟨64 + q.val, by omega⟩ d := by
  unfold colAgg negInf
  refine congrArg (fun f => Finset.fold max (Ideal.ofBits .f32 0xFF800000#32) f Finset.univ) (funext fun j => ?_)
  unfold colPair dense
  pointwise [k1_pay24]
  have e2 : (⟨64 + ((q.val * 16 + j.val) / 256 * 16 + j.val), by omega⟩ : Fin 128) = ⟨(64 + q.val) / 16 * 16 + j.val, by omega⟩ :=
    Fin.ext (by simp only; omega)
  refine congrArg₂ (· + ·) (congrArg (fun s => max (s + bp (ix2 0 d)) 0) (Finset.sum_congr rfl fun x _ => ?_))
    (congrArg (fun s => max (s + bc (ix2 0 d)) 0) (Finset.sum_congr rfl fun x _ => ?_))
  · exact congrArg (fun t => zi (ix2 ⟨64 + q.val, by omega⟩ x) * zj (ix2 t x) * wp (ix2 x d)) e2
  · exact congrArg (fun t => yi (ix2 ⟨64 + q.val, by omega⟩ x) * k1_pay19 y1 b1 (ix2 t x) * wc (ix2 x d)) e2

/-- A block's result at a row: the row plus the one-hot row against the places' aggregates. -/
theorem blockOut (v20 : FVec Ideal S288x2048 .f32) (o : FVec Ideal S288x128 .f32) (R : Fin 288) (d : Fin 2048) :
    k1_pay1 v20 o (k1_pay23 (k1_pay20 zi zj wp bp) (k1_pay21 yi y1 b1 wc bc) k1_pay22) (k1_pay24 zi zj yi (k1_pay19 y1 b1) wp bp wc bc) (ix2 R d)
      = v20 (ix2 R d) + ∑ x : Fin 128, o (ix2 R x) * colAgg zi zj yi y1 b1 wp bp wc bc x d := by
  rw [Fin.sum_univ_add (a := 64) (b := 64)]
  pointwise [k1_pay1]
  refine congrArg (v20 (ix2 R d) + ·) ?_
  refine congrArg₂ (· + ·) (Finset.sum_congr rfl fun x _ => ?_) (Finset.sum_congr rfl fun x _ => ?_)
  · rw [firstHalf]; rfl
  · rw [secondHalf]; rfl

end pairs

/-- The pair weights of a block. -/
def blockW (x7 : Vec Ideal S2048x300 .f32) (x8 : Vec Ideal S1x300 .f32) (x9 : Vec Ideal S2048x300 .f32) (x10 : Vec Ideal S1x300 .f32) (x11 : Vec Ideal S300x2048 .f32)
    (x12 : Vec Ideal S1x2048 .f32) (x13 : Vec Ideal S4x32 .f32) (x14 : Vec Ideal S1x32 .f32) (x15 : Vec Ideal S4x32 .f32) (x16 : Vec Ideal S1x32 .f32)
    (x17 : Vec Ideal S32x2048 .f32) (x18 : Vec Ideal S1x2048 .f32) : PairW :=
  ⟨mat x7, row0 x8, mat x9, row0 x10, mat x11, row0 x12, mat x13, row0 x14, mat x15, row0 x16, mat x17, row0 x18⟩

/-- A row plus its one-hot row against values that are the aggregates at its image's places: the image's result at the row. -/
theorem rowSum (c : RankCol) (w : PairW) (M : Fin 36 → Fin 2048 → EReal) (C : Fin 36 → Fin 4 → EReal) (g : Fin 8) (hk : keyOf c g = crit M) (r : Fin 36) (d : Fin 2048)
    (f : Fin 128 → EReal) (hF : ∀ k, f (bcol g k) = agg w M C k d) :
    M r d + ∑ x, oneHot c (ix2 (brow g r) x) * f x = image w M C r d := by
  by_cases h : ∃ k : Fin 16, r = pick M k
  · obtain ⟨k, hr⟩ := h
    have hr' : r = sel (keyOf c g) ⟨k.val, by omega⟩ := by rw [hk]; exact hr
    have e : ∑ x, oneHot c (ix2 (brow g r) x) * f x = f (bcol g k) := by
      rw [hr']; exact sum_row_hit c g k f
    exact (congrArg (M r d + ·) (e.trans (hF k))).trans (image_hit w M C r d k hr).symm
  · have h' : ∀ k : Fin 16, r ≠ pick M k := fun k e => h ⟨k, e⟩
    rw [image_miss w M C r d h', sum_row_miss, add_zero]
    rw [hk]; exact h'

section whole
variable (v20 : FVec Ideal S288x2048 .f32) (z : FVec Ideal S288x4 .f32) (c : RankCol)
  (x7 : Vec Ideal S2048x300 .f32) (x8 : Vec Ideal S1x300 .f32) (x9 : Vec Ideal S2048x300 .f32) (x10 : Vec Ideal S1x300 .f32) (x11 : Vec Ideal S300x2048 .f32)
  (x12 : Vec Ideal S1x2048 .f32) (x13 : Vec Ideal S4x32 .f32) (x14 : Vec Ideal S1x32 .f32) (x15 : Vec Ideal S4x32 .f32) (x16 : Vec Ideal S1x32 .f32)
  (x17 : Vec Ideal S32x2048 .f32) (x18 : Vec Ideal S1x2048 .f32)

/-- The block's result from its fused rows `v20`, coordinates `z` and squared norms `c`. -/
def blockVal : FVec Ideal S288x2048 .f32 :=
  k1_pay1 v20 (oneHot c)
    (k1_pay23 (k1_pay20 (k1_pay15 v20 (rankArr c) placeIota k1_pay10 k1_pay11 x7 x8) (k1_pay16 v20 (rankArr c) placeIota k1_pay10 k1_pay11 x9 x10) x11 x12)
      (k1_pay21 (k1_pay17 z (rankArr c) placeIota k1_pay10 k1_pay11 x13 x14) (k1_pay18 z (rankArr c) placeIota k1_pay10 k1_pay11 x15) x16 x17 x18) k1_pay22)
    (k1_pay24 (k1_pay15 v20 (rankArr c) placeIota k1_pay10 k1_pay11 x7 x8) (k1_pay16 v20 (rankArr c) placeIota k1_pay10 k1_pay11 x9 x10)
      (k1_pay17 z (rankArr c) placeIota k1_pay10 k1_pay11 x13 x14) (k1_pay19 (k1_pay18 z (rankArr c) placeIota k1_pay10 k1_pay11 x15) x16) x11 x12 x17 x18)

/-- A place's aggregate is its image's, when the column of squared norms is the rows'. -/
theorem colAgg_eq (g : Fin 8) (hk : keyOf c g = crit (imgRows v20 g)) (k : Fin 16) (d : Fin 2048) :
    colAgg (k1_pay15 v20 (rankArr c) placeIota k1_pay10 k1_pay11 x7 x8) (k1_pay16 v20 (rankArr c) placeIota k1_pay10 k1_pay11 x9 x10)
      (k1_pay17 z (rankArr c) placeIota k1_pay10 k1_pay11 x13 x14) (k1_pay18 z (rankArr c) placeIota k1_pay10 k1_pay11 x15) x16 x11 x12 x17 x18 (bcol g k) d
      = agg (blockW x7 x8 x9 x10 x11 x12 x13 x14 x15 x16 x17 x18) (imgRows v20 g) (imgRows z g) k d := by
  unfold colAgg agg
  refine congrArg (fun f => Finset.fold max negInf f Finset.univ) (funext fun j => ?_)
  have e : (⟨(bcol g k).val / 16 * 16 + j.val, by omega⟩ : Fin 128) = bcol g j := Fin.ext (by unfold bcol; simp only; omega)
  rw [e]
  unfold colPair pairVal mlb pick
  rw [← hk]
  refine congrArg₂ (· + ·) ?_ ?_
  · exact congrArg (fun f => dense f (mat x11) (row0 x12) d) (funext fun n => congrArg₂ (· * ·) (feat0 v20 c x7 x8 g k n) (feat1 v20 c x9 x10 g j n))
  · exact congrArg (fun f => dense f (mat x17) (row0 x18) d) (funext fun n => congrArg₂ (· * ·) (coord0 z c x13 x14 g k n) (coord1 z c x15 x16 g j n))

/-- The block's result at row `r` of image `g` is that image's result there. -/
theorem blockVal_eq (hc : ∀ R, c (ix2 R 0) = ∑ d, v20 (ix2 R d) * v20 (ix2 R d)) (g : Fin 8) (r : Fin 36) (d : Fin 2048) :
    blockVal v20 z c x7 x8 x9 x10 x11 x12 x13 x14 x15 x16 x17 x18 (ix2 (brow g r) d)
      = image (blockW x7 x8 x9 x10 x11 x12 x13 x14 x15 x16 x17 x18) (imgRows v20 g) (imgRows z g) r d := by
  have hk : keyOf c g = crit (imgRows v20 g) := funext fun r => hc (brow g r)
  refine (blockOut _ _ _ _ _ _ _ _ _ v20 (oneHot c) (brow g r) d).trans ?_
  have hF := fun k => colAgg_eq v20 z c x7 x8 x9 x10 x11 x12 x13 x14 x15 x16 x17 x18 g hk k d
  exact rowSum c _ (imgRows v20 g) (imgRows z g) g hk r d _ hF

end whole

end Cert.Murel

end
-- ==== Proof.KOut.lean ====
/- What the two regions' bodies leave in their output windows, as the named block functions. -/
module

public import proofs.«01_k».proof.Proof.Gen.KernelIdeal.Frame
public import Idealize.ShloMosaic.Lib.Pipeline.ValueKit
public import proofs.«01_k».proof.Proof.KBlock

@[expose] public section

set_option maxRecDepth 16384

noncomputable section

namespace Cert.Murel

open Idealize.ShloMosaic Idealize.ShloMosaic.TcCoe Cert.KernelIdeal Cert.KernelIdeal.Gen

/-- The first region's block: a dense layer over its rows. -/
theorem out0_eq (x0 : Vec Ideal S256x4800 .f32) (x1 : Vec Ideal S4800x1200 .f32) (x2 : Vec Ideal S1x1200 .f32) : out0_3 x0 x1 x2 = k0_pay1 x0 x1 x2 := by
  frame_out

/-- The first region's block at a row is a dense layer over that row. -/
theorem pay0_eq (x0 : Vec Ideal S256x4800 .f32) (x1 : Vec Ideal S4800x1200 .f32) (x2 : Vec Ideal S1x1200 .f32) (R : Fin 256) (n : Fin 1200) :
    k0_pay1 x0 x1 x2 (ix2 R n) = dense (fun k => x0 (ix2 R k)) (mat x1) (row0 x2) n := by
  pointwise [k0_pay1]
  rfl

/-- The fused row of a block, at row `R`. -/
theorem fused_eq (x0 : Vec Ideal S288x1200 .f32) (x1 : Vec Ideal S288x2048 .f32) (x3 : Vec Ideal S2048x1200 .f32) (x4 : Vec Ideal S1x1200 .f32)
    (x5 : Vec Ideal S1200x2048 .f32) (x6 : Vec Ideal S1x2048 .f32) (R : Fin 288) (d : Fin 2048) :
    k1_pay2 x1 x3 x4 x0 x5 x6 (ix2 R d)
      = dense (fun n => x0 (ix2 R n) * dense (fun k => x1 (ix2 R k)) (mat x3) (row0 x4) n) (mat x5) (row0 x6) d := by
  pointwise [k1_pay2]
  rfl

/-- The criterion of a row is the sum of its entries' squares. -/
theorem norm_eq (x0 : Vec Ideal S288x1200 .f32) (x1 : Vec Ideal S288x2048 .f32) (x3 : Vec Ideal S2048x1200 .f32) (x4 : Vec Ideal S1x1200 .f32)
    (x5 : Vec Ideal S1200x2048 .f32) (x6 : Vec Ideal S1x2048 .f32) (R : Fin 288) :
    k1_pay4 x1 x3 x4 x0 x5 x6 (ix2 R 0) = ∑ d, k1_pay2 x1 x3 x4 x0 x5 x6 (ix2 R d) * k1_pay2 x1 x3 x4 x0 x5 x6 (ix2 R d) := by
  pointwise [k1_pay4]

/-- The coordinates are taken as they are. -/
theorem coords_eq (x2 : Vec Ideal S288x4 .f32) (R : Fin 288) (e : Fin 4) : k1_pay3 x2 (ix2 R e) = x2 (ix2 R e) := by
  pointwise [k1_pay3]

/-- The second region's block from its windows' blocks. -/
theorem out1_eq (x0 : Vec Ideal S288x1200 .f32) (x1 : Vec Ideal S288x2048 .f32) (x2 : Vec Ideal S288x4 .f32) (x3 : Vec Ideal S2048x1200 .f32) (x4 : Vec Ideal S1x1200 .f32)
    (x5 : Vec Ideal S1200x2048 .f32) (x6 : Vec Ideal S1x2048 .f32)
    (x7 : Vec Ideal S2048x300 .f32) (x8 : Vec Ideal S1x300 .f32) (x9 : Vec Ideal S2048x300 .f32) (x10 : Vec Ideal S1x300 .f32) (x11 : Vec Ideal S300x2048 .f32)
    (x12 : Vec Ideal S1x2048 .f32) (x13 : Vec Ideal S4x32 .f32) (x14 : Vec Ideal S1x32 .f32) (x15 : Vec Ideal S4x32 .f32) (x16 : Vec Ideal S1x32 .f32)
    (x17 : Vec Ideal S32x2048 .f32) (x18 : Vec Ideal S1x2048 .f32) :
    out1_19 x0 x1 x2 x3 x4 x5 x6 x7 x8 x9 x10 x11 x12 x13 x14 x15 x16 x17 x18
      = blockVal (k1_pay2 x1 x3 x4 x0 x5 x6) (k1_pay3 x2) (k1_pay4 x1 x3 x4 x0 x5 x6) x7 x8 x9 x10 x11 x12 x13 x14 x15 x16 x17 x18 := by
  unfold_out out1_19
  frame_out
  unfold blockVal oneHot rankArr
  rfl

end Cert.Murel

end
-- ==== Proof.KArray0.lean ====
/- What the first region's result array holds: the question projections of all rows. -/
module

public import proofs.«01_k».proof.Proof.KOut

@[expose] public section

set_option maxRecDepth 16384

noncomputable section

namespace Cert.Murel

open Idealize.ShloMosaic Idealize.ShloMosaic.TcCoe Cert.KernelIdeal Cert.KernelIdeal.Gen

variable (V : (c : Dev nD) → (b : Ref sig .tc) → Buf (Elt Ideal) ((c : Thread nD τ).loc b))

/-- Which block of each array a point of the first grid works on. -/
theorem idx0 : ∀ t : Fin cfg0.N, win0_0.index t = ![t.val, 0] ∧ win0_1.index t = ![0, 0] ∧ win0_2.index t = ![0, 0] ∧ win0_3.index t = ![t.val, 0] :=
  (by decide +kernel : ∀ t : Fin grid0.N, _)

/-- The array of projections: a dense layer over each row. -/
def projArr (a : FVec Ideal S2304x4800 .f32) (w : FVec Ideal S4800x1200 .f32) (b : FVec Ideal S1x1200 .f32) : FVec Ideal S2304x1200 .f32 :=
  fun y => dense (fun k => a (ix2 (y 0) k)) (mat w) (row0 b) (y 1)

/-- After the first region its result array holds the projections of all rows. -/
theorem arr0 (c : Dev nD) : (dat0 V c).arrAt 3 cfg0.N = projArr (V c main_arg0) (V c main_arg3) (V c main_v2) := by
  refine (dat0 V c).arrAt_eq_of_covers 3 _ (by decide +kernel) fun t hf y => ?_
  blk_simp
  rw [after0_3, out0_eq]
  pointwise [k0_pay1, projArr, dense, mat, row0]
  blk_point [iblk0, idx0 t]

end Cert.Murel

end
-- ==== Proof.Goal.lean ====
/- The result of the whole computation as a function of its argument arrays. -/
module

public import proofs.«01_k».proof.Proof.KBlock

@[expose] public section

noncomputable section

namespace Cert.Murel

open Idealize.ShloMosaic

/-- Arrays of rank one. -/
abbrev A1 (n : Nat) : Type := FVec Ideal ⟨1, ![n]⟩ .f32
/-- Arrays of rank two. -/
abbrev A2 (n m : Nat) : Type := FVec Ideal ⟨2, ![n, m]⟩ .f32
/-- Arrays of rank three. -/
abbrev A3 (n m k : Nat) : Type := FVec Ideal ⟨3, ![n, m, k]⟩ .f32

/-- The entries of a rank-one array. -/
abbrev vec {n : Nat} (b : A1 n) (j : Fin n) : EReal := b (ix1 j)

/-- Row `r` of image `b` among all rows. -/
def grow (b : Fin 64) (r : Fin 36) : Fin 2304 := ⟨36 * b.val + r.val, by omega⟩

/-- The fused features: a bilinear layer of each row's question and its image features. -/
def fused (q : A2 2304 4800) (mm : A3 64 36 2048) (w0 : A2 4800 1200) (b0 : A1 1200) (w1 : A2 2048 1200) (b1 : A1 1200) (wo : A2 1200 2048) (bo : A1 2048)
    (b : Fin 64) (r : Fin 36) (d : Fin 2048) : EReal :=
  mlb (fun k => q (ix2 (grow b r) k)) (fun k => mm (ix3 b r k)) (mat w0) (vec b0) (mat w1) (vec b1) (mat wo) (vec bo) d

/-- The weights of the pair stage from their arrays. -/
def pairW (p0 : A2 2048 300) (bp0 : A1 300) (p1 : A2 2048 300) (bp1 : A1 300) (po : A2 300 2048) (bpo : A1 2048)
    (c0 : A2 4 32) (bc0 : A1 32) (c1 : A2 4 32) (bc1 : A1 32) (co : A2 32 2048) (bco : A1 2048) : PairW :=
  ⟨mat p0, vec bp0, mat p1, vec bp1, mat po, vec bpo, mat c0, vec bc0, mat c1, vec bc1, mat co, vec bco⟩

/-- The result: every image's own. -/
def result (q : A2 2304 4800) (mm : A3 64 36 2048) (cc : A3 64 36 4) (w0 : A2 4800 1200) (b0 : A1 1200) (w1 : A2 2048 1200) (b1 : A1 1200) (wo : A2 1200 2048) (bo : A1 2048)
    (p0 : A2 2048 300) (bp0 : A1 300) (p1 : A2 2048 300) (bp1 : A1 300) (po : A2 300 2048) (bpo : A1 2048)
    (c0 : A2 4 32) (bc0 : A1 32) (c1 : A2 4 32) (bc1 : A1 32) (co : A2 32 2048) (bco : A1 2048) : A3 64 36 2048 :=
  fun y => image (pairW p0 bp0 p1 bp1 po bpo c0 bc0 c1 bc1 co bco) (fused q mm w0 b0 w1 b1 wo bo (y 0)) (fun r e => cc (ix3 (y 0) r e)) (y 1) (y 2)

end Cert.Murel

end
-- ==== Proof.KArray1.lean ====
/- What the second region's result array holds: every image's result. -/
module

public import proofs.«01_k».proof.Proof.KOut
public import proofs.«01_k».proof.Proof.Goal

@[expose] public section

set_option maxRecDepth 16384

noncomputable section

namespace Cert.Murel

open Idealize.ShloMosaic Idealize.ShloMosaic.TcCoe Cert.KernelIdeal Cert.KernelIdeal.Gen

variable (V : (c : Dev nD) → (b : Ref sig .tc) → Buf (Elt Ideal) ((c : Thread nD τ).loc b))

/-- Which block of each row array a point of the second grid works on. -/
theorem idx1 : ∀ t : Fin cfg1.N, win1_0.index t = ![t.val, 0] ∧ win1_1.index t = ![t.val, 0] ∧ win1_2.index t = ![t.val, 0] ∧ win1_19.index t = ![t.val, 0] ∧ t.val < 8 :=
  (by decide +kernel : ∀ t : Fin grid1.N, _)

/-- The weights and biases are taken whole at every point of the second grid. -/
theorem idx1w : ∀ t : Fin cfg1.N, win1_3.index t = ![0, 0] ∧ win1_4.index t = ![0, 0] ∧ win1_5.index t = ![0, 0] ∧ win1_6.index t = ![0, 0] ∧ win1_7.index t = ![0, 0]
    ∧ win1_8.index t = ![0, 0] ∧ win1_9.index t = ![0, 0] ∧ win1_10.index t = ![0, 0] ∧ win1_11.index t = ![0, 0] ∧ win1_12.index t = ![0, 0] ∧ win1_13.index t = ![0, 0]
    ∧ win1_14.index t = ![0, 0] ∧ win1_15.index t = ![0, 0] ∧ win1_16.index t = ![0, 0] ∧ win1_17.index t = ![0, 0] ∧ win1_18.index t = ![0, 0] :=
  (by decide +kernel : ∀ t : Fin grid1.N, _)

/-- A weight's or bias's block is the whole array, at every grid point. -/
theorem whole (c : Dev nD) (t : Fin cfg1.N) :
    iblk1 V c 3 t = V c main_arg5 ∧ iblk1 V c 4 t = V c main_v4 ∧ iblk1 V c 5 t = V c main_arg7 ∧ iblk1 V c 6 t = V c main_v5 ∧ iblk1 V c 7 t = V c main_arg9 ∧ iblk1 V c 8 t = V c main_v6
    ∧ iblk1 V c 9 t = V c main_arg11 ∧ iblk1 V c 10 t = V c main_v7 ∧ iblk1 V c 11 t = V c main_arg13 ∧ iblk1 V c 12 t = V c main_v8 ∧ iblk1 V c 13 t = V c main_arg15
    ∧ iblk1 V c 14 t = V c main_v9 ∧ iblk1 V c 15 t = V c main_arg17 ∧ iblk1 V c 16 t = V c main_v10 ∧ iblk1 V c 17 t = V c main_arg19 ∧ iblk1 V c 18 t = V c main_v11 := by
  refine ⟨?_, ?_, ?_, ?_, ?_, ?_, ?_, ?_, ?_, ?_, ?_, ?_, ?_, ?_, ?_, ?_⟩ <;> blk_ext! [iblk1, idx1w t]

/-- Image `g` of block `t` among all images. -/
def gimg (t : Fin cfg1.N) (g : Fin 8) : Fin 64 := ⟨8 * t.val + g.val, by have := (idx1 t).2.2.2.2; omega⟩

/-- A row of a block of projections is that image's row among all. -/
theorem rowRead0 (c : Dev nD) (t : Fin cfg1.N) (g : Fin 8) (r : Fin 36) (n : Fin 1200) :
    (iblk1 V c 0 t : Vec Ideal S288x1200 .f32) (ix2 (brow g r) n) = (V c main_v3 : Vec Ideal S2304x1200 .f32) (ix2 (grow (gimg t g) r) n) := by
  unfold brow grow gimg
  blk_ext [iblk1, idx1 t]

/-- A row of a block of image features is that image's row among all. -/
theorem rowRead1 (c : Dev nD) (t : Fin cfg1.N) (g : Fin 8) (r : Fin 36) (n : Fin 2048) :
    (iblk1 V c 1 t : Vec Ideal S288x2048 .f32) (ix2 (brow g r) n) = (V c main_v0 : Vec Ideal S2304x2048 .f32) (ix2 (grow (gimg t g) r) n) := by
  unfold brow grow gimg
  blk_ext [iblk1, idx1 t]

/-- A row of a block of coordinates is that image's row among all. -/
theorem rowRead2 (c : Dev nD) (t : Fin cfg1.N) (g : Fin 8) (r : Fin 36) (n : Fin 4) :
    (iblk1 V c 2 t : Vec Ideal S288x4 .f32) (ix2 (brow g r) n) = (V c main_v1 : Vec Ideal S2304x4 .f32) (ix2 (grow (gimg t g) r) n) := by
  unfold brow grow gimg
  blk_ext [iblk1, idx1 t]

/-- The fused rows of image `b`. -/
def fusedRows (q : FVec Ideal S2304x1200 .f32) (x : FVec Ideal S2304x2048 .f32) (w3 : FVec Ideal S2048x1200 .f32) (w4 : FVec Ideal S1x1200 .f32)
    (w5 : FVec Ideal S1200x2048 .f32) (w6 : FVec Ideal S1x2048 .f32) (b : Fin 64) (r : Fin 36) (d : Fin 2048) : EReal :=
  dense (fun n => q (ix2 (grow b r) n) * dense (fun k => x (ix2 (grow b r) k)) (mat w3) (row0 w4) n) (mat w5) (row0 w6) d

/-- The result array, rows of all images in order: each image's result from its fused rows and its coordinates. -/
def resArr (w : PairW) (M : Fin 64 → Fin 36 → Fin 2048 → EReal) (x : FVec Ideal S2304x4 .f32) : FVec Ideal S2304x2048 .f32 :=
  fun y => image w (M ⟨(y 0).val / 36, by idx_bounds; omega⟩) (fun r e => x (ix2 (grow ⟨(y 0).val / 36, by idx_bounds; omega⟩ r) e))
    ⟨(y 0).val % 36, Nat.mod_lt _ (by decide)⟩ (y 1)

/-- The result array at a row of an image. -/
theorem resArr_at (w : PairW) (M : Fin 64 → Fin 36 → Fin 2048 → EReal) (x : FVec Ideal S2304x4 .f32) (b : Fin 64) (r : Fin 36) (d : Fin 2048) :
    resArr w M x (ix2 (grow b r) d) = image w (M b) (fun r e => x (ix2 (grow b r) e)) r d := by
  have e1 : (⟨(grow b r).val / 36, by omega⟩ : Fin 64) = b := Fin.ext (by unfold grow; simp only; omega)
  have e2 : (⟨(grow b r).val % 36, Nat.mod_lt _ (by decide)⟩ : Fin 36) = r := Fin.ext (by unfold grow; simp only; omega)
  have key : ∀ (b' : Fin 64) (r' : Fin 36), b' = b → r' = r →
      image w (M b') (fun r e => x (ix2 (grow b' r) e)) r' d = image w (M b) (fun r e => x (ix2 (grow b r) e)) r d := by
    rintro _ _ rfl rfl
    rfl
  exact key _ _ e1 e2

/-- A block's row of the result, from the arrays. -/
theorem out1_row (c : Dev nD) (t : Fin cfg1.N) (g : Fin 8) (r : Fin 36) (d : Fin 2048) :
    out1_19 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)
        (iblk1 V c 10 t) (iblk1 V c 11 t) (iblk1 V c 12 t) (iblk1 V c 13 t) (iblk1 V c 14 t) (iblk1 V c 15 t) (iblk1 V c 16 t) (iblk1 V c 17 t) (iblk1 V c 18 t) (ix2 (brow g r) d)
      = image (blockW (V c main_arg9) (V c main_v6) (V c main_arg11) (V c main_v7) (V c main_arg13) (V c main_v8) (V c main_arg15) (V c main_v9) (V c main_arg17) (V c main_v10)
          (V c main_arg19) (V c main_v11))
          (fusedRows (V c main_v3) (V c main_v0) (V c main_arg5) (V c main_v4) (V c main_arg7) (V c main_v5) (gimg t g))
          (fun r e => (V c main_v1 : Vec Ideal S2304x4 .f32) (ix2 (grow (gimg t g) r) e)) r d := by
  obtain ⟨b3, b4, b5, b6, b7, b8, b9, b10, b11, b12, b13, b14, b15, b16, b17, b18⟩ := whole V c t
  rw [b3, b4, b5, b6, b7, b8, b9, b10, b11, b12, b13, b14, b15, b16, b17, b18, out1_eq]
  refine (blockVal_eq _ _ _ _ _ _ _ _ _ _ _ _ _ _ _ (norm_eq _ _ _ _ _ _) g r d).trans ?_
  have hM : imgRows (k1_pay2 (iblk1 V c 1 t) (V c main_arg5) (V c main_v4) (iblk1 V c 0 t) (V c main_arg7) (V c main_v5)) g
      = fusedRows (V c main_v3) (V c main_v0) (V c main_arg5) (V c main_v4) (V c main_arg7) (V c main_v5) (gimg t g) := by
    funext r d
    refine (fused_eq _ _ _ _ _ _ _ _).trans ?_
    unfold fusedRows
    simp only [rowRead0, rowRead1]
  have hC : imgRows (k1_pay3 (iblk1 V c 2 t)) g = (fun r e => (V c main_v1 : Vec Ideal S2304x4 .f32) (ix2 (grow (gimg t g) r) e)) := by
    funext r e
    exact (coords_eq _ _ _).trans (rowRead2 V c t g r e)
  exact congrArg₂ (fun M C => image _ M C r d) hM hC

/-- After the second region its result array holds every image's result. -/
theorem arr1 (c : Dev nD) : (dat1 V c).arrAt 19 cfg1.N
    = resArr (blockW (V c main_arg9) (V c main_v6) (V c main_arg11) (V c main_v7) (V c main_arg13) (V c main_v8) (V c main_arg15) (V c main_v9) (V c main_arg17) (V c main_v10)
          (V c main_arg19) (V c main_v11))
        (fusedRows (V c main_v3) (V c main_v0) (V c main_arg5) (V c main_v4) (V c main_arg7) (V c main_v5)) (V c main_v1) := by
  refine (dat1 V c).arrAt_eq_of_covers 19 _ (by decide +kernel) fun t hf y => ?_
  blk_simp
  rw [after1_19]
  obtain ⟨R, d, rfl⟩ : ∃ (R : Fin 288) (d : Fin 2048), y = ix2 R d := ⟨y 0, y 1, eq_ix2 y⟩
  obtain ⟨g, r, rfl⟩ := brow_surj R
  refine (out1_row V c t g r d).trans ((resArr_at _ _ _ (gimg t g) r d).symm.trans ?_)
  unfold gimg grow brow
  refine congrArg _ ?_
  blk_ext [idx1 t]

end Cert.Murel

end
-- ==== Proof.KVal.lean ====
/- What the kernel's program leaves in its result buffer: the result as a function of the arguments as launched. -/
module

public import proofs.«01_k».proof.Proof.KArray0
public import proofs.«01_k».proof.Proof.KArray1

@[expose] public section

set_option maxRecDepth 16384

noncomputable section

namespace Cert.Murel

open Idealize.ShloMosaic Idealize.ShloMosaic.TcCoe Cert.KernelIdeal Cert.KernelIdeal.Gen

/-- A bias laid out as one row. -/
theorem row0_cast {n : Nat} (b : A1 n) (h : (⟨1, ![n]⟩ : Shape).ShapeCasts ⟨2, ![1, n]⟩) : row0 (shapeCast ⟨2, ![1, n]⟩ b h) = vec b := by
  funext j
  exact shapeCast_apply b h (ix2 (0 : Fin 1) j) (ix1 j) (by rw [Shape.rowMajor_val_two, Shape.rowMajor_val_one]; change j.val = 0 * n + j.val; omega)

/-- The images laid out one after the other. -/
theorem rows_cast {n : Nat} (x : A3 64 36 n) (h : (⟨3, ![64, 36, n]⟩ : Shape).ShapeCasts ⟨2, ![2304, n]⟩) (b : Fin 64) (r : Fin 36) (k : Fin n) :
    shapeCast ⟨2, ![2304, n]⟩ x h (ix2 (grow b r) k) = x (ix3 b r k) :=
  shapeCast_apply x h (ix2 (grow b r) k) (ix3 b r k) (by
    rw [Shape.rowMajor_val_two, Shape.rowMajor_val_three]; change (b.val * 36 + r.val) * n + k.val = (36 * b.val + r.val) * n + k.val; rw [Nat.mul_comm b.val])

/-- The rows grouped by image. -/
theorem imgs_cast {n : Nat} (x : A2 2304 n) (h : (⟨2, ![2304, n]⟩ : Shape).ShapeCasts ⟨3, ![64, 36, n]⟩) (b : Fin 64) (r : Fin 36) (k : Fin n) :
    shapeCast ⟨3, ![64, 36, n]⟩ x h (ix3 b r k) = x (ix2 (grow b r) k) :=
  shapeCast_apply x h (ix3 b r k) (ix2 (grow b r) k) (by
    rw [Shape.rowMajor_val_two, Shape.rowMajor_val_three]; change (36 * b.val + r.val) * n + k.val = (b.val * 36 + r.val) * n + k.val; rw [Nat.mul_comm b.val])

/-- The result laid out from the flat arrays. -/
theorem result_of_arrays (q : A2 2304 4800) (mm : A3 64 36 2048) (cc : A3 64 36 4) (w0 : A2 4800 1200) (b0 : A1 1200) (w1 : A2 2048 1200) (b1 : A1 1200) (wo : A2 1200 2048) (bo : A1 2048)
    (p0 : A2 2048 300) (bp0 : A1 300) (p1 : A2 2048 300) (bp1 : A1 300) (po : A2 300 2048) (bpo : A1 2048)
    (c0 : A2 4 32) (bc0 : A1 32) (c1 : A2 4 32) (bc1 : A1 32) (co : A2 32 2048) (bco : A1 2048)
    (h1 h2 h3 h4 h5 h6 h7 h8 h9 h10 h11 h12) :
    shapeCast S64x36x2048
        (resArr (blockW p0 (shapeCast S1x300 bp0 h1) p1 (shapeCast S1x300 bp1 h2) po (shapeCast S1x2048 bpo h3) c0 (shapeCast S1x32 bc0 h4) c1 (shapeCast S1x32 bc1 h5) co
            (shapeCast S1x2048 bco h6))
          (fusedRows (projArr q w0 (shapeCast S1x1200 b0 h7)) (shapeCast S2304x2048 mm h8) w1 (shapeCast S1x1200 b1 h9) wo (shapeCast S1x2048 bo h10)) (shapeCast S2304x4 cc h11)) h12
      = result q mm cc w0 b0 w1 b1 wo bo p0 bp0 p1 bp1 po bpo c0 bc0 c1 bc1 co bco := by
  funext y
  obtain ⟨b, r, d, rfl⟩ : ∃ (b : Fin 64) (r : Fin 36) (d : Fin 2048), y = ix3 b r d := ⟨y 0, y 1, y 2, eq_ix3 y⟩
  refine (imgs_cast _ _ b r d).trans ((resArr_at _ _ _ b r d).trans ?_)
  have hw : blockW p0 (shapeCast S1x300 bp0 h1) p1 (shapeCast S1x300 bp1 h2) po (shapeCast S1x2048 bpo h3) c0 (shapeCast S1x32 bc0 h4) c1 (shapeCast S1x32 bc1 h5) co
      (shapeCast S1x2048 bco h6) = pairW p0 bp0 p1 bp1 po bpo c0 bc0 c1 bc1 co bco := by
    unfold blockW pairW
    rw [row0_cast, row0_cast, row0_cast, row0_cast, row0_cast, row0_cast]
  have hM : fusedRows (projArr q w0 (shapeCast S1x1200 b0 h7)) (shapeCast S2304x2048 mm h8) w1 (shapeCast S1x1200 b1 h9) wo (shapeCast S1x2048 bo h10) b
      = fused q mm w0 b0 w1 b1 wo bo b := by
    funext r d
    unfold fusedRows fused mlb
    rw [row0_cast, row0_cast]
    simp only [rows_cast]
    have e : ∀ n, projArr q w0 (shapeCast S1x1200 b0 h7) (ix2 (grow b r) n) = dense (fun k => q (ix2 (grow b r) k)) (mat w0) (vec b0) n := by
      intro n
      rw [← row0_cast b0 h7]
      rfl
    simp only [e]
  have hC : (fun r e => (shapeCast S2304x4 cc h11) (ix2 (grow b r) e)) = (fun r e => cc (ix3 b r e)) := by
    funext r e
    exact rows_cast cc h11 b r e
  rw [hw, hM, hC]
  rfl

section
variable (m : (a : Loc nD τ sig) → Buf (Elt Ideal) a) (ρ : Dev nD → PrngReg)

/-- What the first reshapes leave: the images laid out in rows, and the first bias as a row. -/
theorem entry1 (c : Dev nD) :
    V1 m ρ c main_v0 = shapeCast S2304x2048 (m ((c : Thread nD τ).loc main_arg1)) shapeCasts_S64x36x2048_S2304x2048
    ∧ V1 m ρ c main_v1 = shapeCast S2304x4 (m ((c : Thread nD τ).loc main_arg2)) shapeCasts_S64x36x4_S2304x4
    ∧ V1 m ρ c main_v2 = shapeCast S1x1200 (m ((c : Thread nD τ).loc main_arg4)) shapeCasts_S1200_S1x1200 := by
  delta V1 W1
  refine ⟨?_, ?_, ?_⟩ <;> (entry_read; rfl)

/-- What the second reshapes leave: each bias as a row. -/
theorem entry3 (c : Dev nD) :
    V3 m ρ c main_v4 = shapeCast S1x1200 (m ((c : Thread nD τ).loc main_arg6)) shapeCasts_S1200_S1x1200
    ∧ V3 m ρ c main_v5 = shapeCast S1x2048 (m ((c : Thread nD τ).loc main_arg8)) shapeCasts_S2048_S1x2048
    ∧ V3 m ρ c main_v6 = shapeCast S1x300 (m ((c : Thread nD τ).loc main_arg10)) shapeCasts_S300_S1x300
    ∧ V3 m ρ c main_v7 = shapeCast S1x300 (m ((c : Thread nD τ).loc main_arg12)) shapeCasts_S300_S1x300
    ∧ V3 m ρ c main_v8 = shapeCast S1x2048 (m ((c : Thread nD τ).loc main_arg14)) shapeCasts_S2048_S1x2048
    ∧ V3 m ρ c main_v9 = shapeCast S1x32 (m ((c : Thread nD τ).loc main_arg16)) shapeCasts_S32_S1x32
    ∧ V3 m ρ c main_v10 = shapeCast S1x32 (m ((c : Thread nD τ).loc main_arg18)) shapeCasts_S32_S1x32
    ∧ V3 m ρ c main_v11 = shapeCast S1x2048 (m ((c : Thread nD τ).loc main_arg20)) shapeCasts_S2048_S1x2048 := by
  delta V3 W3
  refine ⟨?_, ?_, ?_, ?_, ?_, ?_, ?_, ?_⟩ <;> (entry_read; exact congrArg (fun x => shapeCast _ x _) (W2_args m ρ c _ (by decide)))

/-- The laid-out images are still there when the second region starts. -/
theorem kept3 (c : Dev nD) : V3 m ρ c main_v0 = V1 m ρ c main_v0 ∧ V3 m ρ c main_v1 = V1 m ρ c main_v1 :=
  ⟨(W3_of m ρ c main_v0 (by decide)).trans (W2_of m ρ c main_v0 (by decide)), (W3_of m ρ c main_v1 (by decide)).trans (W2_of m ρ c main_v1 (by decide))⟩

/-- An argument is as launched when the first region starts. -/
theorem arg1 (c : Dev nD) (a : Ref sig .tc) (ha : a ∈ argRefs) : V1 m ρ c a = m ((c : Thread nD τ).loc a) := W1_args m ρ c a ha

/-- An argument is as launched when the second region starts. -/
theorem arg3 (c : Dev nD) (a : Ref sig .tc) (ha : a ∈ argRefs) : V3 m ρ c a = m ((c : Thread nD τ).loc a) := W3_args m ρ c a ha

/-- The projections are there when the second region starts. -/
theorem v3_v3 (c : Dev nD) : V3 m ρ c main_v3 = projArr (m ((c : Thread nD τ).loc main_arg0)) (m ((c : Thread nD τ).loc main_arg3)) (V1 m ρ c main_v2) := by
  refine ((W3_of m ρ c main_v3 (by decide)).trans (W2_arr m ρ c 3)).trans ((arr0 (V1 m ρ) c).trans ?_)
  rw [arg1 m ρ c main_arg0 (by decide), arg1 m ρ c main_arg3 (by decide)]

/-- The result as a function of the arguments as launched. -/
def kres (c : Dev nD) : A3 64 36 2048 :=
  result (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14)) (m ((c : Thread nD τ).loc main_arg15))
    (m ((c : Thread nD τ).loc main_arg16)) (m ((c : Thread nD τ).loc main_arg17)) (m ((c : Thread nD τ).loc main_arg18)) (m ((c : Thread nD τ).loc main_arg19))
    (m ((c : Thread nD τ).loc main_arg20))

/-- The kernel's result buffer at the end holds the result. -/
theorem w5_result (c : Dev nD) : W5 m ρ c (Proc.devRef .tc main_v13) = kres m c := by
  have h : W5 m ρ c (Proc.devRef .tc main_v13) = shapeCast S64x36x2048 (W4 m ρ c (Proc.devRef .tc main_v12)) shapeCasts_S2304x2048_S64x36x2048 := by
    change StableHlo.after hostOps2 (W4 m ρ c) (Proc.devRef .tc main_v13) = _
    entry_read
    rfl
  have h12 : W4 m ρ c (Proc.devRef .tc main_v12) = _ := (W4_arr m ρ c 19).trans (arr1 (V3 m ρ) c)
  obtain ⟨e0, e1, e2⟩ := entry1 m ρ c
  obtain ⟨b4, b5, b6, b7, b8, b9, b10, b11⟩ := entry3 m ρ c
  obtain ⟨k0, k1⟩ := kept3 m ρ c
  rw [h, h12, v3_v3, k0, k1, e0, e1, e2, b4, b5, b6, b7, b8, b9, b10, b11]
  have ha := arg3 m ρ c
  rw [ha main_arg5 (by decide), ha main_arg7 (by decide), ha main_arg9 (by decide), ha main_arg11 (by decide), ha main_arg13 (by decide), ha main_arg15 (by decide),
    ha main_arg17 (by decide), ha main_arg19 (by decide)]
  unfold kres
  exact result_of_arrays _ _ _ _ _ _ _ _ _ _ _ _ _ _ _ _ _ _ _ _ _ _ _ _ _ _ _ _ _ _ _ _ _

end

end Cert.Murel

end
-- ==== Proof.RefFused.lean ====
/- The fused features and the norms of the regions, as the reference computes them. -/
module

public import proofs.«01_k».proof.Proof.Goal
public import proofs.«01_k».proof.Proof.Gen.ReferenceIdeal.Run
public import Idealize.ShloMosaic.Lib.Pipeline.ValueKit
public import Idealize.ShloMosaic.Lib.Tactic.CleanTypes

@[expose] public section

set_option maxRecDepth 16384

noncomputable section

namespace Cert.Murel.Ref

open Idealize.ShloMosaic Idealize.ShloMosaic.TcCoe Cert.ReferenceIdeal Cert.ReferenceIdeal.Value

variable (V0 : Valuation τ sig (Elt Ideal))

/-- The reference's fused features at their place. -/
theorem v17_at (b : Fin 64) (r : Fin 36) (d : Fin 2048) : res_main_v17 V0 (ix3 b r d) = fused (V0 (Proc.devRef .tc main_arg0)) (V0 (Proc.devRef .tc main_arg1))
      (V0 (Proc.devRef .tc main_arg3)) (V0 (Proc.devRef .tc main_arg4)) (V0 (Proc.devRef .tc main_arg5)) (V0 (Proc.devRef .tc main_arg6)) (V0 (Proc.devRef .tc main_arg7))
      (V0 (Proc.devRef .tc main_arg8)) b r d := by
  unfold res_main_v17
  clean_types
  pointwise
  have e : grow b r = ⟨b.val * 36 + r.val, by omega⟩ := Fin.ext (by unfold grow; simp only; omega)
  unfold fused
  rw [e]
  rfl

/-- The fused features of image `b`, as the reference computes them. -/
abbrev MM (b : Fin 64) (r : Fin 36) (d : Fin 2048) : EReal := res_main_v17 V0 (ix3 b r d)

/-- The reference's norm of a region: the root of its squared norm. -/
theorem v18_at (b : Fin 64) (r : Fin 36) : res_main_v18 V0 (ix2 b r) = Ideal.sqrt (crit (MM V0 b) r) := by
  unfold res_main_v18
  clean_types
  pointwise
  rfl

end Cert.Murel.Ref
end
-- ==== Proof.RefTop.lean ====
/- The positions the reference's top-k returns: the regions picked. -/
module

public import proofs.«01_k».proof.Proof.RefFused

@[expose] public section

set_option maxRecDepth 16384

noncomputable section

namespace Cert.Murel.Ref

open Idealize.ShloMosaic Idealize.ShloMosaic.TcCoe Cert.ReferenceIdeal Cert.ReferenceIdeal.Value

/-- A square is not negative. -/
theorem sq_nonneg (x : EReal) : 0 ≤ x * x := by
  rcases le_total 0 x with h | h
  · exact mul_nonneg h h
  · rw [← neg_mul_neg]
    exact mul_nonneg (EReal.neg_nonneg.2 h) (EReal.neg_nonneg.2 h)

/-- A squared norm is not negative. -/
theorem crit_nonneg {R : Nat} (M : Fin R → Fin 2048 → EReal) (r : Fin R) : 0 ≤ crit M r :=
  Finset.sum_nonneg fun d _ => sq_nonneg _

/-- The root of infinity is infinity. -/
theorem sqrt_top : Ideal.sqrt ⊤ = ⊤ := rfl

/-- The root of a real number that is not negative. -/
theorem sqrt_coe (r : ℝ) (h : 0 ≤ r) : Ideal.sqrt (r : EReal) = (Real.sqrt r : EReal) :=
  (rfl : Ideal.sqrt (r : EReal) = if r < 0 then ⊥ else (Real.sqrt r : EReal)).trans (if_neg (not_lt.2 h))

/-- The root of a number that is not negative keeps the order. -/
theorem sqrt_lt {a b : EReal} (ha : 0 ≤ a) (hb : 0 ≤ b) : Ideal.sqrt a < Ideal.sqrt b ↔ a < b := by
  induction a with
  | bot => exact absurd ha (by simp)
  | top =>
    induction b with
    | bot => exact absurd hb (by simp)
    | top => simp
    | coe b =>
      rw [sqrt_top, sqrt_coe b (EReal.coe_nonneg.1 hb)]
      simp
  | coe a =>
    induction b with
    | bot => exact absurd hb (by simp)
    | top =>
      rw [sqrt_top, sqrt_coe a (EReal.coe_nonneg.1 ha)]
      simp [EReal.coe_lt_top]
    | coe b =>
      rw [sqrt_coe a (EReal.coe_nonneg.1 ha), sqrt_coe b (EReal.coe_nonneg.1 hb), EReal.coe_lt_coe_iff, EReal.coe_lt_coe_iff]
      exact Real.sqrt_lt_sqrt_iff (EReal.coe_nonneg.1 ha)

/-- Sorting by the norm and by its square take the same order. -/
theorem sel_sqrt {R : Nat} (M : Fin R → Fin 2048 → EReal) (k : Fin R) : sel (fun r => Ideal.sqrt (crit M r)) k = sel (crit M) k := by
  unfold sel
  rw [sortedFrom_congr (larger fun r => Ideal.sqrt (crit M r)) (larger (crit M)) fun a b _ => ?_]
  exact decide_eq_decide.2 (sqrt_lt (crit_nonneg M b) (crit_nonneg M a))

/-- The second result of a two-operand sort along an axis of the shape. -/
theorem sort2_snd {s : Shape} {α β : Type} (a : Fin s.rank) (cmp : α × β → α × β → BitVec 1) (x : s.Idx → α) (y : s.Idx → β) (j : s.Idx) :
    (Host.sort2 s a.val cmp x y).2 j
      = y (j.along a (sortedFrom (fun k k' => cmp (x (j.along a k), y (j.along a k)) (x (j.along a k'), y (j.along a k')) == 1#1) (j a))) := by
  unfold Host.sort2
  rw [dif_pos a.isLt]

/-- The position at place `k` of a row's greatest, of a matrix. -/
theorem topK_pos {α : Type} {n m p : Nat} (gt : α → α → BitVec 1) (x : (⟨2, ![n, m]⟩ : Shape).Idx → α) (h : (⟨2, ![n, m]⟩ : Shape).Slices (fun _ => 0) ⟨2, ![n, p]⟩)
    (hp : p ≤ m) (b : Fin n) (k : Fin p) :
    (Host.topK ⟨2, ![n, p]⟩ 1 gt x h).2 (ix2 b k)
      = BitVec.ofNat 32 (sortedFrom (fun q q' : Fin m => gt (x (ix2 b q)) (x (ix2 b q')) == 1#1) ⟨k.val, by omega⟩).val := by
  have e : ∀ q : Fin m, Shape.Idx.along (s := ⟨2, ![n, m]⟩) (ix2 b (⟨k.val, by omega⟩ : Fin m)) 1 q = ix2 b q := by
    intro q
    funext a
    match a with
    | ⟨0, _⟩ => rfl
    | ⟨1, _⟩ => rfl
  have h1 : (Host.topK ⟨2, ![n, p]⟩ 1 gt x h).2 (ix2 b k)
      = (Host.sort2 ⟨2, ![n, m]⟩ (1 : Fin 2).val (fun l r : α × BitVec 32 => gt l.1 r.1) x (iotaInDim ⟨2, ![n, m]⟩ 32 1)).2 (ix2 b (⟨k.val, by omega⟩ : Fin m)) := by
    have h0 : (fun i : (⟨2, ![n, m]⟩ : Shape).Idx => if hd : 1 < (⟨2, ![n, m]⟩ : Shape).rank then iotaInDim ⟨2, ![n, m]⟩ 32 ⟨1, hd⟩ i else 0#32) = iotaInDim ⟨2, ![n, m]⟩ 32 1 :=
      funext fun i => dif_pos (by decide : 1 < 2)
    unfold Host.topK
    simp only [h0]
    refine extractStridedSlice_apply (s := ⟨2, ![n, m]⟩) (t := ⟨2, ![n, p]⟩) (fun _ => 0)
      (Host.sort2 ⟨2, ![n, m]⟩ 1 (fun l r : α × BitVec 32 => gt l.1 r.1) x (iotaInDim ⟨2, ![n, m]⟩ 32 1)).2 h (ix2 b k) (ix2 b (⟨k.val, by omega⟩ : Fin m)) ?_
    intro a
    match a with
    | ⟨0, _⟩ => exact (Nat.zero_add _).symm
    | ⟨1, _⟩ => exact (Nat.zero_add _).symm
  refine h1.trans ((sort2_snd (s := ⟨2, ![n, m]⟩) 1 _ x _ _).trans ?_)
  refine (congrArg (iotaInDim ⟨2, ![n, m]⟩ 32 1) (e _)).trans ?_
  refine congrArg (fun f : Fin m → Fin m → Bool => BitVec.ofNat 32 (sortedFrom f (⟨k.val, _⟩ : Fin m)).val) ?_
  funext q q'
  rw [e q, e q']

/-- A greater-than on extended reals, as the sort's comparison. -/
theorem gt_larger {R : Nat} (key : Fin R → EReal) : (fun q q' => FloatOps.cmpfTotal (F := Ideal) (φ := .f32) .gt (key q) (key q') == 1#1) = larger key := by
  funext q q'
  change (BitVec.ofBool (decide (key q > key q')) == 1#1) = decide (key q' < key q)
  by_cases h : key q' < key q <;> simp [h]

/-- The position at place `k` of a row's top sixteen. -/
theorem topK_idx (x : FVec Ideal S64x36 .f32) (h) (b : Fin 64) (k : Fin 16) :
    (Host.topK S64x16 1 (FloatOps.cmpfTotal (F := Ideal) (φ := .f32) .gt) x h).2 (ix2 b k) = BitVec.ofNat 32 (sel (fun r => x (ix2 b r)) ⟨k.val, by omega⟩).val :=
  (topK_pos (α := Ideal .f32) _ x h (by omega) b k).trans
    (congrArg (fun f => BitVec.ofNat 32 (sortedFrom f (⟨k.val, by omega⟩ : Fin 36)).val) (gt_larger fun r => x (ix2 b r)))

/-- The positions the reference takes are the regions picked. -/
theorem indices_at (V0 : Valuation τ sig (Elt Ideal)) (b : Fin 64) (k : Fin 16) : res_main_indices V0 (ix2 b k) = BitVec.ofNat 32 (pick (MM V0 b) k).val := by
  refine (topK_idx _ _ b k).trans ?_
  have e : (fun r => res_main_v18 V0 (ix2 b r)) = fun r => Ideal.sqrt (crit (MM V0 b) r) := funext fun r => v18_at V0 b r
  refine congrArg (fun q : Fin 36 => BitVec.ofNat 32 q.val) ?_
  exact (congrArg (fun f : Fin 36 → EReal => sel f (⟨k.val, by omega⟩ : Fin 36)) e).trans (sel_sqrt _ _)

end Cert.Murel.Ref
end
-- ==== Proof.RefGather.lean ====
/- The rows the reference takes: those of the regions picked. -/
module

public import proofs.«01_k».proof.Proof.RefTop

@[expose] public section

set_option maxRecDepth 16384

noncomputable section

namespace Cert.Murel.Ref

open Idealize.ShloMosaic Idealize.ShloMosaic.TcCoe Cert.ReferenceIdeal Cert.ReferenceIdeal.Value

variable (V0 : Valuation τ sig (Elt Ideal))

/-- A region's number as a word. -/
abbrev rw32 (q : Fin 36) : BitVec 32 := BitVec.ofNat 32 q.val

/-- A region's number is not negative. -/
theorem slt_zero : ∀ q : Fin 36, IntOp.cmpi .slt (rw32 q) 0#32 = 0#1 := by decide +kernel
/-- A region's number is at least zero. -/
theorem sge_zero : ∀ q : Fin 36, IntOp.cmpi .sge (rw32 q) 0#32 = 1#1 := by decide +kernel
/-- A region's number is at most the last one. -/
theorem sle_last : ∀ q : Fin 36, IntOp.cmpi .sle (rw32 q) 35#32 = 1#1 := by decide +kernel
/-- Clamping a region's number into range leaves it. -/
theorem word_clamp : ∀ q : Fin 36, min (rw32 q).toInt.toNat 35 = q.val := by decide +kernel

/-- A negative index would be shifted; a region's number is not negative. -/
theorem wrap_word (x : BitVec 32) (y : BitVec 32) (q : Fin 36) (h : x = rw32 q) : Scalar.select (IntOp.cmpi .slt x 0#32) y x = rw32 q := by
  subst h
  rw [slt_zero]
  rfl

/-- The guard of an index holds at a region's number. -/
theorem guard_word (f : Fin 1 → BitVec 32) (q : Fin 36) (h : ∀ z, f z = rw32 q) :
    Finset.fold IntOp.andi (1#1) (fun z => IntOp.andi (IntOp.cmpi .sge (f z) 0#32) (IntOp.cmpi .sle (f z) 35#32)) Finset.univ = 1#1 := by
  have e : (fun z => IntOp.andi (IntOp.cmpi .sge (f z) 0#32) (IntOp.cmpi .sle (f z) 35#32)) = fun _ => 1#1 := by
    funext z
    rw [h z, sge_zero, sle_last]
    rfl
  rw [e]
  rfl

/-- A selection by a true bit. -/
theorem select_one {α : Type} (x y : α) : Scalar.select 1#1 x y = x := rfl

/-- The index the features are taken at is the region picked. -/
theorem call4_at (b : Fin 64) (k : Fin 16) (z : Fin 1) : res_main_call4_v4 V0 (ix3 b k z) = rw32 (pick (MM V0 b) k) := by
  unfold res_main_call4_v4 res_main_v19
  clean_types
  pointwise
  exact wrap_word _ _ _ (indices_at V0 b k)

/-- The index the coordinates are taken at is the region picked. -/
theorem call5_at (b : Fin 64) (k : Fin 16) (z : Fin 1) : res_main_call5_v4 V0 (ix3 b k z) = rw32 (pick (MM V0 b) k) := by
  unfold res_main_call5_v4 res_main_v21
  clean_types
  pointwise
  exact wrap_word _ _ _ (indices_at V0 b k)

/-- A batched row gather: row `q` of image `b`, when the index at `(b, k)` is `q`. -/
theorem gather_rows {α : Type} {n : Nat} (d : GatherDims ⟨3, ![64, 36, n]⟩ ⟨3, ![64, 16, 1]⟩ ⟨3, ![64, 16, n]⟩) (h1 : d.offsetDims = [2]) (h2 : d.collapsedSliceDims = [1])
    (h3 : d.operandBatchingDims = [0]) (h4 : d.startIndicesBatchingDims = [0]) (h5 : d.startIndexMap = [1]) (h6 : d.indexVectorDim = 2) (h7 : d.sliceSizes = ![1, 1, n])
    (x : (⟨3, ![64, 36, n]⟩ : Shape).Idx → α) (idx : IVec ⟨3, ![64, 16, 1]⟩ 32) (b : Fin 64) (k : Fin 16) (q : Fin 36) (c : Fin n) (hq : ∀ z, idx (ix3 b k z) = rw32 q) :
    Host.gather d x idx (ix3 b k c) = x (ix3 b q c) := by
  obtain ⟨_, _, _, _, _, _, _, wf⟩ := d
  subst h1 h2 h3 h4 h5 h6 h7
  unfold Host.gather
  refine congrArg x ?_
  funext a
  refine Fin.ext ?_
  match a with
  | ⟨0, _⟩ =>
    change 0 + b.val + 0 = b.val
    omega
  | ⟨1, _⟩ =>
    change min (idx _).toInt.toNat 35 + 0 + 0 = q.val
    have e : ∀ j : (⟨3, ![64, 16, 1]⟩ : Shape).Idx, j 0 = b → j 1 = k → min (idx j).toInt.toNat 35 + 0 + 0 = q.val := by
      intro j hb hk
      have hj : j = ix3 b k (j 2 : Fin 1) := by
        funext a
        match a with
        | ⟨0, _⟩ => exact hb
        | ⟨1, _⟩ => exact hk
        | ⟨2, _⟩ => rfl
      rw [(congrArg idx hj).trans (hq _)]
      exact word_clamp q
    exact e _ rfl rfl
  | ⟨2, _⟩ =>
    change 0 + 0 + c.val = c.val
    omega

/-- The features taken at place `k`: those of the region picked. -/
theorem v20_at (b : Fin 64) (k : Fin 16) (d : Fin 2048) : res_main_v20 V0 (ix3 b k d) = MM V0 b (pick (MM V0 b) k) d := by
  unfold res_main_v20
  clean_types
  pointwise
  refine (congrArg (fun g => Scalar.select g _ _) (guard_word _ _ (call4_at V0 b k))).trans ?_
  refine (select_one _ _).trans ?_
  exact gather_rows gather_S64x36x2048_S64x16x1_S64x16x2048_2_1_0_0_1_2_112048 rfl rfl rfl rfl rfl rfl rfl _ _ b k _ d (call4_at V0 b k)

/-- The coordinates taken at place `k`: those of the region picked. -/
theorem v22_at (b : Fin 64) (k : Fin 16) (e : Fin 4) :
    res_main_v22 V0 (ix3 b k e) = (V0 (Proc.devRef .tc main_arg2) : A3 64 36 4) (ix3 b (pick (MM V0 b) k) e) := by
  unfold res_main_v22
  clean_types
  pointwise
  refine (congrArg (fun g => Scalar.select g _ _) (guard_word _ _ (call5_at V0 b k))).trans ?_
  refine (select_one _ _).trans ?_
  exact gather_rows gather_S64x36x4_S64x16x1_S64x16x4_2_1_0_0_1_2_114 rfl rfl rfl rfl rfl rfl rfl _ _ b k _ e (call5_at V0 b k)

end Cert.Murel.Ref
end
-- ==== Proof.RefScatter.lean ====
/- A scatter of one row per place of each image: which row it sets, and which it leaves. -/
module

public import proofs.«01_k».proof.Proof.RefGather
public import Idealize.ShloMosaic.Lib.Routing.OpsSet

@[expose] public section

set_option maxRecDepth 16384

noncomputable section

namespace Cert.Murel.Ref

open Idealize.ShloMosaic Idealize.ShloMosaic.TcCoe Cert.ReferenceIdeal Cert.ReferenceIdeal.Value

/-- An image's number as a word. -/
abbrev bw32 (b : Fin 64) : BitVec 32 := BitVec.ofNat 32 b.val

/-- The signed value of an image's word is its number. -/
theorem bw_toInt : ∀ b : Fin 64, (bw32 b).toInt = b.val := by decide +kernel
/-- The signed value of a region's word is its number. -/
theorem rw_toInt : ∀ q : Fin 36, (rw32 q).toInt = q.val := by decide +kernel

section
variable {α : Type} (d : ScatterDims S64x36x2048 S64x16x2 S64x16x2048) (h1 : d.updateWindowDims = [2]) (h2 : d.insertedWindowDims = [0, 1])
  (h3 : d.scatterDimsToOperandDims = [0, 1]) (h4 : d.indexVectorDim = 2) (idx : IVec S64x16x2 32) (p : Fin 64 → Fin 16 → Fin 36)
  (hi0 : ∀ b k, idx (ix3 b k 0) = bw32 b) (hi1 : ∀ b k, idx (ix3 b k 1) = rw32 (p b k))

include h1 h2 h3 h4 hi0 hi1

/-- The entry an update lands at: its image, the row its place names, its column. -/
theorem lands (b' : Fin 64) (k' : Fin 16) (c' : Fin 2048) (b : Fin 64) (r : Fin 36) (c : Fin 2048) :
    d.resultIdx? (ix3 b' k' c') idx = some (ix3 b r c) ↔ b' = b ∧ p b' k' = r ∧ c' = c := by
  rw [Routing.resultIdx?_eq_some]
  obtain ⟨_, _, _, _, wf⟩ := d
  subst h1 h2 h3 h4
  have e0 : ScatterDims.start ⟨[2], [0, 1], [0, 1], 2, wf⟩ (ix3 b' k' c') idx 0 = (b'.val : Int) := by
    have g : ∀ j : S64x16x2.Idx, j = ix3 b' k' 0 → (idx j).toInt = (b'.val : Int) := fun j hj => by rw [(congrArg idx hj).trans (hi0 b' k')]; exact bw_toInt b'
    refine g _ ?_
    funext a
    match a with
    | ⟨0, _⟩ => rfl
    | ⟨1, _⟩ => rfl
    | ⟨2, _⟩ => rfl
  have e1 : ScatterDims.start ⟨[2], [0, 1], [0, 1], 2, wf⟩ (ix3 b' k' c') idx 1 = ((p b' k').val : Int) := by
    have g : ∀ j : S64x16x2.Idx, j = ix3 b' k' 1 → (idx j).toInt = ((p b' k').val : Int) := fun j hj => by rw [(congrArg idx hj).trans (hi1 b' k')]; exact rw_toInt _
    refine g _ ?_
    funext a
    match a with
    | ⟨0, _⟩ => rfl
    | ⟨1, _⟩ => rfl
    | ⟨2, _⟩ => rfl
  have e2 : ScatterDims.start ⟨[2], [0, 1], [0, 1], 2, wf⟩ (ix3 b' k' c') idx 2 = 0 := rfl
  have w0 : ScatterDims.window ⟨[2], [0, 1], [0, 1], 2, wf⟩ (ix3 b' k' c') 0 = 0 := rfl
  have w1 : ScatterDims.window ⟨[2], [0, 1], [0, 1], 2, wf⟩ (ix3 b' k' c') 1 = 0 := rfl
  have w2 : ScatterDims.window ⟨[2], [0, 1], [0, 1], 2, wf⟩ (ix3 b' k' c') 2 = c'.val := rfl
  constructor
  · intro h
    have a0 := h 0
    have a1 := h 1
    have a2 := h 2
    rw [e0, w0] at a0
    rw [e1, w1] at a1
    rw [e2, w2] at a2
    change (b'.val : Int) + (0 : Nat) = (b.val : Int) at a0
    change ((p b' k').val : Int) + (0 : Nat) = (r.val : Int) at a1
    change (0 : Int) + (c'.val : Int) = (c.val : Int) at a2
    exact ⟨Fin.ext (by omega), Fin.ext (by omega), Fin.ext (by omega)⟩
  · rintro ⟨rfl, rfl, rfl⟩ a
    match a with
    | ⟨0, _⟩ => exact (congrArg₂ (fun (s : Int) (w : Nat) => s + (w : Int)) e0 w0).trans (by change (b'.val : Int) + (0 : Nat) = (b'.val : Int); omega)
    | ⟨1, _⟩ => exact (congrArg₂ (fun (s : Int) (w : Nat) => s + (w : Int)) e1 w1).trans (by change ((p b' k').val : Int) + (0 : Nat) = ((p b' k').val : Int); omega)
    | ⟨2, _⟩ => exact (congrArg₂ (fun (s : Int) (w : Nat) => s + (w : Int)) e2 w2).trans (by change (0 : Int) + (c'.val : Int) = (c'.val : Int); omega)

/-- The row of a place gets that place's update, when no two places of an image name one row. -/
theorem scatter_hit (x0 : S64x36x2048.Idx → α) (upd : S64x16x2048.Idx → α) (b : Fin 64) (k : Fin 16) (c : Fin 2048) (hp : Function.Injective (p b)) :
    Host.scatter d (fun _ v => v) x0 idx upd (ix3 b (p b k) c) = upd (ix3 b k c) := by
  refine Routing.scatter_set_hit d x0 idx upd _ _ (fun j hj => ?_) (ix3 b k c) ((lands d h1 h2 h3 h4 idx p hi0 hi1 b k c b (p b k) c).2 ⟨rfl, rfl, rfl⟩)
  obtain ⟨b', k', c', rfl⟩ : ∃ (b' : Fin 64) (k' : Fin 16) (c' : Fin 2048), j = ix3 b' k' c' := ⟨j 0, j 1, j 2, eq_ix3 j⟩
  obtain ⟨rfl, hk, rfl⟩ := (lands d h1 h2 h3 h4 idx p hi0 hi1 _ _ _ _ _ _).1 hj
  rw [hp hk]

/-- A row no place names stays. -/
theorem scatter_miss (x0 : S64x36x2048.Idx → α) (upd : S64x16x2048.Idx → α) (b : Fin 64) (r : Fin 36) (c : Fin 2048) (hr : ∀ k, r ≠ p b k) :
    Host.scatter d (fun _ v => v) x0 idx upd (ix3 b r c) = x0 (ix3 b r c) := by
  refine Routing.scatter_set_miss d x0 idx upd _ fun j hj => ?_
  obtain ⟨b', k', c', rfl⟩ : ∃ (b' : Fin 64) (k' : Fin 16) (c' : Fin 2048), j = ix3 b' k' c' := ⟨j 0, j 1, j 2, eq_ix3 j⟩
  obtain ⟨rfl, hk, rfl⟩ := (lands d h1 h2 h3 h4 idx p hi0 hi1 _ _ _ _ _ _).1 hj
  exact hr k' hk.symm

end

end Cert.Murel.Ref
end
-- ==== Proof.RefResult.lean ====
/- The reference's result: every image's own. -/
module

public import proofs.«01_k».proof.Proof.RefScatter

@[expose] public section

set_option maxRecDepth 16384

noncomputable section

namespace Cert.Murel.Ref

open Idealize.ShloMosaic Idealize.ShloMosaic.TcCoe Cert.ReferenceIdeal Cert.ReferenceIdeal.Value

variable (V0 : Valuation τ sig (Elt Ideal))

/-- Two places of the sorted order hold two elements. -/
theorem sel_injective {n : Nat} (key : Fin n → EReal) : Function.Injective (sel key) := sortedFrom_injective (larger key)

/-- Two places hold two regions. -/
theorem pick_injective (M : Fin 36 → Fin 2048 → EReal) : Function.Injective (pick M) := by
  intro k k' h
  exact Fin.ext (Fin.mk.inj_iff.1 (sel_injective (crit M) h))

/-- A place's row with its aggregate, from the rows and coordinates taken. -/
theorem agg_of (w : PairW) (M : Fin 36 → Fin 2048 → EReal) (C : Fin 36 → Fin 4 → EReal) (f : Fin 16 → Fin 2048 → EReal) (g : Fin 16 → Fin 4 → EReal)
    (hf : ∀ k, f k = M (pick M k)) (hg : ∀ k, g k = C (pick M k)) (k : Fin 16) (d : Fin 2048) :
    f k d + Finset.fold max negInf (fun j : Fin 16 => pairVal w (f k) (f j) (g k) (g j) d) Finset.univ = M (pick M k) d + agg w M C k d := by
  unfold agg
  simp only [hf, hg]

/-- The reference's pair weights. -/
abbrev RW : PairW := pairW (V0 (Proc.devRef .tc main_arg9)) (V0 (Proc.devRef .tc main_arg10)) (V0 (Proc.devRef .tc main_arg11)) (V0 (Proc.devRef .tc main_arg12))
  (V0 (Proc.devRef .tc main_arg13)) (V0 (Proc.devRef .tc main_arg14)) (V0 (Proc.devRef .tc main_arg15)) (V0 (Proc.devRef .tc main_arg16)) (V0 (Proc.devRef .tc main_arg17))
  (V0 (Proc.devRef .tc main_arg18)) (V0 (Proc.devRef .tc main_arg19)) (V0 (Proc.devRef .tc main_arg20))

/-- The coordinates of image `b`. -/
abbrev CC (b : Fin 64) (r : Fin 36) (e : Fin 4) : EReal := (V0 (Proc.devRef .tc main_arg2) : A3 64 36 4) (ix3 b r e)

/-- An image's number is not negative. -/
theorem bslt_zero : ∀ b : Fin 64, IntOp.cmpi .slt (bw32 b) 0#32 = 0#1 := by decide +kernel

/-- A negative index would be shifted; an image's number is not negative. -/
theorem wrap_image (x : BitVec 32) (y : BitVec 32) (b : Fin 64) (h : x = bw32 b) : Scalar.select (IntOp.cmpi .slt x 0#32) y x = bw32 b := by
  subst h
  rw [bslt_zero]
  rfl

/-- The image coordinate of the scatter's indices. -/
theorem v67_at (b : Fin 64) (z : Fin 1) : res_main_v67 V0 (ix2 b z) = bw32 b := by
  unfold res_main_v67
  clean_types
  pointwise

/-- A picked region's row of the reference's result. -/
theorem v82_hit (b : Fin 64) (k : Fin 16) (d : Fin 2048) :
    res_main_v82 V0 (ix3 b (pick (MM V0 b) k) d) = MM V0 b (pick (MM V0 b) k) d + agg (RW V0) (MM V0 b) (CC V0 b) k d := by
  unfold res_main_v82
  clean_types
  refine (scatter_hit scatter_S64x36x2048_S64x16x2_S64x16x2048_2_01_01_2 rfl rfl rfl rfl _ (fun b k => pick (MM V0 b) k) (fun b k => ?_) (fun b k => ?_) _ _ b k d (pick_injective _)).trans ?_
  · pointwise
    exact wrap_image _ _ _ (v67_at V0 b 0)
  · pointwise
    exact wrap_word _ _ _ (indices_at V0 b k)
  · pointwise
    exact agg_of (RW V0) (MM V0 b) (CC V0 b) (fun k d => res_main_v20 V0 (ix3 b k d)) (fun k e => res_main_v22 V0 (ix3 b k e)) (fun k => funext fun d => v20_at V0 b k d)
      (fun k => funext fun e => v22_at V0 b k e) k d

/-- Every other region's row of the reference's result. -/
theorem v82_miss (b : Fin 64) (r : Fin 36) (d : Fin 2048) (hr : ∀ k, r ≠ pick (MM V0 b) k) : res_main_v82 V0 (ix3 b r d) = MM V0 b r d := by
  unfold res_main_v82
  clean_types
  refine (scatter_miss scatter_S64x36x2048_S64x16x2_S64x16x2048_2_01_01_2 rfl rfl rfl rfl _ (fun b k => pick (MM V0 b) k) (fun b k => ?_) (fun b k => ?_) _ _ b r d hr).trans rfl
  · pointwise
    exact wrap_image _ _ _ (v67_at V0 b 0)
  · pointwise
    exact wrap_word _ _ _ (indices_at V0 b k)

/-- A row of the reference's result is the image's result at that row. -/
theorem v82_at (b : Fin 64) (r : Fin 36) (d : Fin 2048) : res_main_v82 V0 (ix3 b r d) = image (RW V0) (MM V0 b) (CC V0 b) r d := by
  by_cases h : ∃ k, r = pick (MM V0 b) k
  · obtain ⟨k, hk⟩ := h
    rw [image_hit (RW V0) (MM V0 b) (CC V0 b) r d k hk, hk]
    exact v82_hit V0 b k d
  · have h' : ∀ k, r ≠ pick (MM V0 b) k := fun k e => h ⟨k, e⟩
    rw [image_miss (RW V0) (MM V0 b) (CC V0 b) r d h']
    exact v82_miss V0 b r d h'

/-- The reference's result as a function of its arguments. -/
theorem v82_eq : res_main_v82 V0 = result (V0 (Proc.devRef .tc main_arg0)) (V0 (Proc.devRef .tc main_arg1)) (V0 (Proc.devRef .tc main_arg2)) (V0 (Proc.devRef .tc main_arg3))
    (V0 (Proc.devRef .tc main_arg4)) (V0 (Proc.devRef .tc main_arg5)) (V0 (Proc.devRef .tc main_arg6)) (V0 (Proc.devRef .tc main_arg7)) (V0 (Proc.devRef .tc main_arg8))
    (V0 (Proc.devRef .tc main_arg9)) (V0 (Proc.devRef .tc main_arg10)) (V0 (Proc.devRef .tc main_arg11)) (V0 (Proc.devRef .tc main_arg12)) (V0 (Proc.devRef .tc main_arg13))
    (V0 (Proc.devRef .tc main_arg14)) (V0 (Proc.devRef .tc main_arg15)) (V0 (Proc.devRef .tc main_arg16)) (V0 (Proc.devRef .tc main_arg17)) (V0 (Proc.devRef .tc main_arg18))
    (V0 (Proc.devRef .tc main_arg19)) (V0 (Proc.devRef .tc main_arg20)) := by
  funext y
  obtain ⟨b, r, d, rfl⟩ : ∃ (b : Fin 64) (r : Fin 36) (d : Fin 2048), y = ix3 b r d := ⟨y 0, y 1, y 2, eq_ix3 y⟩
  refine (v82_at V0 b r d).trans ?_
  have hM : MM V0 b = fused (V0 (Proc.devRef .tc main_arg0)) (V0 (Proc.devRef .tc main_arg1)) (V0 (Proc.devRef .tc main_arg3)) (V0 (Proc.devRef .tc main_arg4))
      (V0 (Proc.devRef .tc main_arg5)) (V0 (Proc.devRef .tc main_arg6)) (V0 (Proc.devRef .tc main_arg7)) (V0 (Proc.devRef .tc main_arg8)) b :=
    funext fun r => funext fun d => v17_at V0 b r d
  rw [hM]
  rfl

end Cert.Murel.Ref
end
-- ==== Proof.lean ====
/- The certificate: both programs of the kernel and the reference run to the end with arguments and counters as they should be, and kernel and reference
   compute the same array over the extended reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KRun
public import proofs.«01_k».proof.Proof.KVal
public import proofs.«01_k».proof.Proof.RefResult
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem Cert.Murel

/-- The reference runs to the end, its arguments as launched and every counter at zero. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Kernel and reference leave the same array over the extended reals. -/
theorem algebraic : Cert.algebraic_KernelIdeal_ReferenceIdeal := by
  intro m ρ m' ρ' _ hagree
  refine ⟨fun c => kres m c, ?_, ?_⟩
  · exact (θ_run Cert.KernelIdeal.defs _ _).mono (fun r h c => ⟨(h c).1.trans (w5_result m ρ c), (h c).2⟩) (krun (F := Ideal) m ρ)
  · refine (θ_run Cert.ReferenceIdeal.defs _ _).mono (fun r h c => ⟨(h c).1.trans ?_, (h c).2⟩) (Cert.ReferenceIdeal.Value.run (F := Ideal) m' ρ')
    obtain ⟨h0, h1, h2, h3, h4, h5, h6, h7, h8, h9, h10, h11, h12, h13, h14, h15, h16, h17, h18, h19, h20⟩ := hagree c
    refine (Ref.v82_eq (StableHlo.launchContents m' c)).trans ?_
    change result (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10))
      (m' ((c.tc : Thread Cert.ReferenceIdeal.nD Cert.ReferenceIdeal.τ).loc Cert.ReferenceIdeal.main_arg11))
      (m' ((c.tc : Thread Cert.ReferenceIdeal.nD Cert.ReferenceIdeal.τ).loc Cert.ReferenceIdeal.main_arg12))
      (m' ((c.tc : Thread Cert.ReferenceIdeal.nD Cert.ReferenceIdeal.τ).loc Cert.ReferenceIdeal.main_arg13))
      (m' ((c.tc : Thread Cert.ReferenceIdeal.nD Cert.ReferenceIdeal.τ).loc Cert.ReferenceIdeal.main_arg14))
      (m' ((c.tc : Thread Cert.ReferenceIdeal.nD Cert.ReferenceIdeal.τ).loc Cert.ReferenceIdeal.main_arg15))
      (m' ((c.tc : Thread Cert.ReferenceIdeal.nD Cert.ReferenceIdeal.τ).loc Cert.ReferenceIdeal.main_arg16))
      (m' ((c.tc : Thread Cert.ReferenceIdeal.nD Cert.ReferenceIdeal.τ).loc Cert.ReferenceIdeal.main_arg17))
      (m' ((c.tc : Thread Cert.ReferenceIdeal.nD Cert.ReferenceIdeal.τ).loc Cert.ReferenceIdeal.main_arg18))
      (m' ((c.tc : Thread Cert.ReferenceIdeal.nD Cert.ReferenceIdeal.τ).loc Cert.ReferenceIdeal.main_arg19))
      (m' ((c.tc : Thread Cert.ReferenceIdeal.nD Cert.ReferenceIdeal.τ).loc Cert.ReferenceIdeal.main_arg20)) = kres m c
    unfold kres
    rw [h0, h1, h2, h3, h4, h5, h6, h7, h8, h9, h10, h11, h12, h13, h14, h15, h16, h17, h18, h19, h20]

/-- All five claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, algebraic⟩

end Cert.Proof

end
